-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_experts [hPre_finite_experts : Cert.Pre_finite_experts.Facts] (m : (ℓ : Loc Cert.KernelIdeal.nD Cert.KernelIdeal.τ Cert.KernelIdeal.sig) → Buf (Elt Ideal) ℓ) : Prop :=
  ∀ c : Dev Cert.KernelIdeal.nD,
    (Cert.Pre_finite_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_experts [hPre_finite_experts : Cert.Pre_finite_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_experts [hKernelIdeal : Cert.KernelIdeal.Facts] [hPre_finite_experts : Cert.Pre_finite_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_experts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_experts [hReferenceIdeal : Cert.ReferenceIdeal.Facts] [hPre_finite_experts : Cert.Pre_finite_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_experts [hKernelIdeal : Cert.KernelIdeal.Facts] [hReferenceIdeal : Cert.ReferenceIdeal.Facts] [hPre_finite_experts : Cert.Pre_finite_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_experts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_experts : Cert.Pre_finite_experts.Facts),
    quiescent_Kernel (hKernel := hKernel)
    ∧ quiescent_KernelIdeal (hKernelIdeal := hKernelIdeal)
    ∧ quiescent_KernelIdeal_pre_finite_experts (hKernelIdeal := hKernelIdeal) (hPre_finite_experts := hPre_finite_experts)
    ∧ quiescent_ReferenceIdeal (hReferenceIdeal := hReferenceIdeal)
    ∧ quiescent_ReferenceIdeal_pre_finite_experts (hReferenceIdeal := hReferenceIdeal) (hPre_finite_experts := hPre_finite_experts)
    ∧ preserves_Kernel_KernelIdeal
    ∧ algebraic_KernelIdeal_ReferenceIdeal_pre_finite_experts (hKernelIdeal := hKernelIdeal) (hReferenceIdeal := hReferenceIdeal) (hPre_finite_experts := hPre_finite_experts)
-- ==== Pre_finite_experts.lean ====
abbrev S4x2048x768 : Shape := ⟨3, ![4, 2048, 768]⟩
abbrev S768x128 : Shape := ⟨2, ![768, 128]⟩
abbrev S128 : Shape := ⟨1, ![128]⟩
abbrev S8x128 : Shape := ⟨2, ![8, 128]⟩
abbrev S8 : Shape := ⟨1, ![8]⟩
abbrev S8x192x768 : Shape := ⟨3, ![8, 192, 768]⟩
abbrev S8x768x192 : Shape := ⟨3, ![8, 768, 192]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S128 : S_.BroadcastsInDim S128 (![] : Fin 0 → Fin S128.rank)
  reducesTo_S128_S_d0 : S128.ReducesTo [0] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_
  bcast_S_S8x192x768 : S_.BroadcastsInDim S8x192x768 (![] : Fin 0 → Fin S8x192x768.rank)
  reducesTo_S8x192x768_S_d0_1_2 : S8x192x768.ReducesTo [0, 1, 2] S_
  bcast_S_S8x768x192 : S_.BroadcastsInDim S8x768x192 (![] : Fin 0 → Fin S8x768x192.rank)
  reducesTo_S8x768x192_S_d0_1_2 : S8x768x192.ReducesTo [0, 1, 2] S_

variable [Facts]

def fn_part1 {F : FTy → Type} [FloatOps F] (main_arg6 : FVec F S8x192x768 .f32) (main_arg7 : FVec F S8x768x192 .f32) (main_arg8 : FVec F S_ .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x192x768 .f32 := Host.absf main_arg6
  let main_cst_6 : FVec F S_ .f32 := constant S_ .f32 0x7F800000#32
  let main_v20 : FVec F S8x192x768 .f32 := broadcastInDim S8x192x768 ![] bcast_S_S8x192x768 main_cst_6
  let main_v21 : IVec S8x192x768 1 := cmpf .olt main_v19 main_v20
  let main_c_7 : IVec S_ 1 := constantI S_ 1 1#1
  let main_v22 : IVec S_ 1 := (fun x v => Host.reduce IntOp.andi x v reducesTo_S8x192x768_S_d0_1_2 h_S_) main_v21 main_c_7
  let main_v23 : IVec S_ 1 := andi main_v18 main_v22
  let main_v24 : FVec F S8x768x192 .f32 := Host.absf main_arg7
  let main_cst_8 : FVec F S_ .f32 := constant S_ .f32 0x7F800000#32
  let main_v25 : FVec F S8x768x192 .f32 := broadcastInDim S8x768x192 ![] bcast_S_S8x768x192 main_cst_8
  let main_v26 : IVec S8x768x192 1 := cmpf .olt main_v24 main_v25
  let main_c_9 : IVec S_ 1 := constantI S_ 1 1#1
  let main_v27 : IVec S_ 1 := (fun x v => Host.reduce IntOp.andi x v reducesTo_S8x768x192_S_d0_1_2 h_S_) main_v26 main_c_9
  let main_v28 : IVec S_ 1 := andi main_v23 main_v27
  let main_v29 : FVec F S_ .f32 := Host.absf main_arg8
  let main_cst_10 : FVec F S_ .f32 := constant S_ .f32 0x7F800000#32
  let main_v30 : IVec S_ 1 := cmpf .olt main_v29 main_cst_10
  let main_v31 : IVec S_ 1 := andi main_v28 main_v30
  main_v31

def fn {F : FTy → Type} [FloatOps F] (main_arg0 : FVec F S4x2048x768 .f32) (main_arg1 : FVec F S768x128 .f32) (main_arg2 : FVec F S768x128 .f32) (main_arg3 : FVec F S128 .f32) (main_arg4 : FVec F S8x128 .f32) (main_arg5 : FVec F S8 .f32) (main_arg6 : FVec F S8x192x768 .f32) (main_arg7 : FVec F S8x768x192 .f32) (main_arg8 : FVec F S_ .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S8x128 .f32 := Host.absf main_arg4
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S8 .f32 := Host.absf main_arg5
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg6 main_arg7 main_arg8 main_v13 main_v16
-- ==== Kernel.lean ====
abbrev S4x2048x768 : Shape := ⟨3, ![4, 2048, 768]⟩
abbrev S768x128 : Shape := ⟨2, ![768, 128]⟩
abbrev S128 : Shape := ⟨1, ![128]⟩
abbrev S8x128 : Shape := ⟨2, ![8, 128]⟩
abbrev S8 : Shape := ⟨1, ![8]⟩
abbrev S8x192x768 : Shape := ⟨3, ![8, 192, 768]⟩
abbrev S8x768x192 : Shape := ⟨3, ![8, 768, 192]⟩
abbrev S_ : Shape := ⟨0, ![]⟩
abbrev S8192x768 : Shape := ⟨2, ![8192, 768]⟩
abbrev S768x8x192 : Shape := ⟨3, ![768, 8, 192]⟩
abbrev S768x1536 : Shape := ⟨2, ![768, 1536]⟩
abbrev S1536x768 : Shape := ⟨2, ![1536, 768]⟩
abbrev S1536 : Shape := ⟨1, ![1536]⟩
abbrev S8x1 : Shape := ⟨2, ![8, 1]⟩
abbrev S1x1536 : Shape := ⟨2, ![1, 1536]⟩
abbrev S8x1536 : Shape := ⟨2, ![8, 1536]⟩
abbrev S1x128 : Shape := ⟨2, ![1, 128]⟩
abbrev S1x8 : Shape := ⟨2, ![1, 8]⟩
abbrev S1 : Shape := ⟨1, ![1]⟩
abbrev S1024x768 : Shape := ⟨2, ![1024, 768]⟩
abbrev S1024x128 : Shape := ⟨2, ![1024, 128]⟩
abbrev S1024 : Shape := ⟨1, ![1024]⟩
abbrev S1024x1 : Shape := ⟨2, ![1024, 1]⟩
abbrev S1024x8 : Shape := ⟨2, ![1024, 8]⟩
abbrev S1024x1536 : Shape := ⟨2, ![1024, 1536]⟩
abbrev S1x1024x1 : Shape := ⟨3, ![1, 1024, 1]⟩
abbrev S1x1x1 : Shape := ⟨3, ![1, 1, 1]⟩
abbrev S128x128 : Shape := ⟨2, ![128, 128]⟩
abbrev S1x128x128 : Shape := ⟨3, ![1, 128, 128]⟩

abbrev nBuf : Space → Nat
  | .hbm => 62
  | .vmem => 12
  | .smem => 3
  | _ => 0

abbrev bufTy : (tb : Table) → Fin (tcTables nBuf tb) → BufTy
  | .hbm, ⟨0, _⟩ => ⟨S4x2048x768, .f32⟩
  | .hbm, ⟨1, _⟩ => ⟨S768x128, .f32⟩
  | .hbm, ⟨2, _⟩ => ⟨S768x128, .f32⟩
  | .hbm, ⟨3, _⟩ => ⟨S128, .f32⟩
  | .hbm, ⟨4, _⟩ => ⟨S8x128, .f32⟩
  | .hbm, ⟨5, _⟩ => ⟨S8, .f32⟩
  | .hbm, ⟨6, _⟩ => ⟨S8x192x768, .f32⟩
  | .hbm, ⟨7, _⟩ => ⟨S8x768x192, .f32⟩
  | .hbm, ⟨8, _⟩ => ⟨S_, .f32⟩
  | .hbm, ⟨9, _⟩ => ⟨S8192x768, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S768x8x192, .f32⟩
  | .hbm, ⟨15, _⟩ => ⟨S768x1536, .f32⟩
  | .hbm, ⟨16, _⟩ => ⟨S768x1536, .f32⟩
  | .hbm, ⟨17, _⟩ => ⟨S768x1536, .f32⟩
  | .hbm, ⟨18, _⟩ => ⟨S768x1536, .bf16⟩
  | .hbm, ⟨19, _⟩ => ⟨S8x192x768, .f32⟩
  | .hbm, ⟨20, _⟩ => ⟨S1536x768, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1536x768, .f32⟩
  | .hbm, ⟨25, _⟩ => ⟨S1536x768, .f32⟩
  | .hbm, ⟨26, _⟩ => ⟨S1536x768, .bf16⟩
  | .hbm, ⟨27, _⟩ => ⟨S8, .i32⟩
  | .hbm, ⟨28, _⟩ => ⟨S1536, .i32⟩
  | .hbm, ⟨29, _⟩ => ⟨S_, .i32⟩
  | .hbm, ⟨30, _⟩ => ⟨S_, .i32⟩
  | .hbm, ⟨31, _⟩ => ⟨S1536, .i32⟩
  | .hbm, ⟨32, _⟩ => ⟨S1536, .i32⟩
  | .hbm, ⟨33, _⟩ => ⟨S1536, .i32⟩
  | .hbm, ⟨34, _⟩ => ⟨S_, .i32⟩
  | .hbm, ⟨35, _⟩ => ⟨S1536, .i32⟩
  | .hbm, ⟨36, _⟩ => ⟨S1536, .i1⟩
  | .hbm, ⟨37, _⟩ => ⟨S1536, .i32⟩
  | .hbm, ⟨38, _⟩ => ⟨S1536, .i32⟩
  | .hbm, ⟨39, _⟩ => ⟨S_, .i32⟩
  | .hbm, ⟨40, _⟩ => ⟨S1536, .i32⟩
  | .hbm, ⟨41, _⟩ => ⟨S1536, .i1⟩
  | .hbm, ⟨42, _⟩ => ⟨S1536, .i1⟩
  | .hbm, ⟨43, _⟩ => ⟨S_, .i32⟩
  | .hbm, ⟨44, _⟩ => ⟨S1536, .i32⟩
  | .hbm, ⟨45, _⟩ => ⟨S1536, .i32⟩
  | .hbm, ⟨46, _⟩ => ⟨S1536, .i32⟩
  | .hbm, ⟨47, _⟩ => ⟨S8x1, .i32⟩
  | .hbm, ⟨48, _⟩ => ⟨S1x1536, .i32⟩
  | .hbm, ⟨49, _⟩ => ⟨S8x1536, .i32⟩
  | .hbm, ⟨50, _⟩ => ⟨S8x1536, .i32⟩
  | .hbm, ⟨51, _⟩ => ⟨S8x1536, .i1⟩
  | .hbm, ⟨52, _⟩ => ⟨S8x1536, .bf16⟩
  | .hbm, ⟨53, _⟩ => ⟨S1x128, .f32⟩
  | .hbm, ⟨54, _⟩ => ⟨S1x8, .f32⟩
  | .hbm, ⟨55, _⟩ => ⟨S1, .f32⟩
  | .hbm, ⟨56, _⟩ => ⟨S8192x768, .f32⟩
  | .hbm, ⟨57, _⟩ => ⟨S1, .f32⟩
  | .hbm, ⟨58, _⟩ => ⟨S1, .f32⟩
  | .hbm, ⟨59, _⟩ => ⟨S4x2048x768, .f32⟩
  | .hbm, ⟨60, _⟩ => ⟨S_, .f32⟩
  | .hbm, ⟨61, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S768x128, .f32⟩
  | .local _ .vmem, ⟨3, _⟩ => ⟨S768x128, .f32⟩
  | .local _ .vmem, ⟨4, _⟩ => ⟨S1x128, .f32⟩
  | .local _ .vmem, ⟨5, _⟩ => ⟨S8x128, .f32⟩
  | .local _ .vmem, ⟨6, _⟩ => ⟨S1x8, .f32⟩
  | .local _ .vmem, ⟨7, _⟩ => ⟨S768x1536, .bf16⟩
  | .local _ .vmem, ⟨8, _⟩ => ⟨S1536x768, .bf16⟩
  | .local _ .vmem, ⟨9, _⟩ => ⟨S8x1536, .bf16⟩
  | .local _ .vmem, ⟨10, _⟩ => ⟨S1024x768, .f32⟩
  | .local _ .vmem, ⟨11, _⟩ => ⟨S1024x768, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27_0 : Ref sig .tc := ⟨.hbm, 56, rfl⟩
abbrev main_v27_1 : Ref sig .tc := ⟨.hbm, 57, rfl⟩
abbrev main_v27_2 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg9_0 : Ref sig .tc := ⟨.smem, 0, rfl⟩
abbrev cc0_stg11_0 : Ref sig .tc := ⟨.smem, 1, rfl⟩
abbrev cc0_stg12_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_40 : BitVec 32 := 0#32
  let v106 : BitVec 1 := Scalar.cmpi .eq arg0 c0_i32_40
  let v107 : BitVec 32 := Scalar.extui v106
  let c0_i32_41 : BitVec 32 := 0#32
  let v108 : BitVec 1 := Scalar.cmpi .ne v107 c0_i32_41
  v108

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .smem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .smem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4x2048x768 : Shape := ⟨3, ![4, 2048, 768]⟩
abbrev S768x128 : Shape := ⟨2, ![768, 128]⟩
abbrev S128 : Shape := ⟨1, ![128]⟩
abbrev S8x128 : Shape := ⟨2, ![8, 128]⟩
abbrev S8 : Shape := ⟨1, ![8]⟩
abbrev S8x192x768 : Shape := ⟨3, ![8, 192, 768]⟩
abbrev S8x768x192 : Shape := ⟨3, ![8, 768, 192]⟩
abbrev S_ : Shape := ⟨0, ![]⟩
abbrev S4x1x768 : Shape := ⟨3, ![4, 1, 768]⟩
abbrev S4x2047x768 : Shape := ⟨3, ![4, 2047, 768]⟩
abbrev S4x2047x128 : Shape := ⟨3, ![4, 2047, 128]⟩
abbrev S4x2047 : Shape := ⟨2, ![4, 2047]⟩
abbrev S4x2047x1 : Shape := ⟨3, ![4, 2047, 1]⟩
abbrev S1x128 : Shape := ⟨2, ![1, 128]⟩
abbrev S4x2047x8 : Shape := ⟨3, ![4, 2047, 8]⟩
abbrev S1x1x8 : Shape := ⟨3, ![1, 1, 8]⟩
abbrev S4x2047x8x192 : Shape := ⟨4, ![4, 2047, 8, 192]⟩
abbrev S8x768x4x2047 : Shape := ⟨4, ![8, 768, 4, 2047]⟩
abbrev S4x2047x8x768 : Shape := ⟨4, ![4, 2047, 8, 768]⟩
abbrev S128x128 : Shape := ⟨2, ![128, 128]⟩
abbrev S128x768 : Shape := ⟨2, ![128, 768]⟩

abbrev nBuf : Space → Nat
  | .hbm => 112
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S768x128, .f32⟩
  | .hbm, ⟨2, _⟩ => ⟨S768x128, .f32⟩
  | .hbm, ⟨3, _⟩ => ⟨S128, .f32⟩
  | .hbm, ⟨4, _⟩ => ⟨S8x128, .f32⟩
  | .hbm, ⟨5, _⟩ => ⟨S8, .f32⟩
  | .hbm, ⟨6, _⟩ => ⟨S8x192x768, .f32⟩
  | .hbm, ⟨7, _⟩ => ⟨S8x768x192, .f32⟩
  | .hbm, ⟨8, _⟩ => ⟨S_, .f32⟩
  | .hbm, ⟨9, _⟩ => ⟨S4x1x768, .f32⟩
  | .hbm, ⟨10, _⟩ => ⟨S4x2047x768, .f32⟩
  | .hbm, ⟨11, _⟩ => ⟨S4x2047x128, .f32⟩
  | .hbm, ⟨12, _⟩ => ⟨S4x2047x128, .f32⟩
  | .hbm, ⟨13, _⟩ => ⟨S_, .f32⟩
  | .hbm, ⟨14, _⟩ => ⟨S4x2047, .f32⟩
  | .hbm, ⟨15, _⟩ => ⟨S4x2047x1, .f32⟩
  | .hbm, ⟨16, _⟩ => ⟨S_, .f32⟩
  | .hbm, ⟨17, _⟩ => ⟨S4x2047x1, .f32⟩
  | .hbm, ⟨18, _⟩ => ⟨S4x2047x1, .f32⟩
  | .hbm, ⟨19, _⟩ => ⟨S4x2047x128, .f32⟩
  | .hbm, ⟨20, _⟩ => ⟨S4x2047x128, .f32⟩
  | .hbm, ⟨21, _⟩ => ⟨S_, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S1x128, .f32⟩
  | .hbm, ⟨27, _⟩ => ⟨S8x128, .f32⟩
  | .hbm, ⟨28, _⟩ => ⟨S8x128, .f32⟩
  | .hbm, ⟨29, _⟩ => ⟨S8x128, .f32⟩
  | .hbm, ⟨30, _⟩ => ⟨S_, .f32⟩
  | .hbm, ⟨31, _⟩ => ⟨S128, .f32⟩
  | .hbm, ⟨32, _⟩ => ⟨S1x128, .f32⟩
  | .hbm, ⟨33, _⟩ => ⟨S8x128, .f32⟩
  | .hbm, ⟨34, _⟩ => ⟨S8x128, .f32⟩
  | .hbm, ⟨35, _⟩ => ⟨S1x128, .f32⟩
  | .hbm, ⟨36, _⟩ => ⟨S8x128, .f32⟩
  | .hbm, ⟨37, _⟩ => ⟨S8x128, .f32⟩
  | .hbm, ⟨38, _⟩ => ⟨S4x2047x8, .f32⟩
  | .hbm, ⟨39, _⟩ => ⟨S1x1x8, .f32⟩
  | .hbm, ⟨40, _⟩ => ⟨S4x2047x8, .f32⟩
  | .hbm, ⟨41, _⟩ => ⟨S4x2047x8, .f32⟩
  | .hbm, ⟨42, _⟩ => ⟨S_, .f32⟩
  | .hbm, ⟨43, _⟩ => ⟨S4x2047x8, .f32⟩
  | .hbm, ⟨44, _⟩ => ⟨S4x2047x8, .f32⟩
  | .hbm, ⟨45, _⟩ => ⟨S_, .f32⟩
  | .hbm, ⟨46, _⟩ => ⟨S4x2047, .f32⟩
  | .hbm, ⟨47, _⟩ => ⟨S_, .f32⟩
  | .hbm, ⟨48, _⟩ => ⟨S4x2047, .f32⟩
  | .hbm, ⟨49, _⟩ => ⟨S4x2047, .f32⟩
  | .hbm, ⟨50, _⟩ => ⟨S4x2047x1, .f32⟩
  | .hbm, ⟨51, _⟩ => ⟨S4x2047x8, .f32⟩
  | .hbm, ⟨52, _⟩ => ⟨S4x2047x8, .f32⟩
  | .hbm, ⟨53, _⟩ => ⟨S4x2047x8, .f32⟩
  | .hbm, ⟨54, _⟩ => ⟨S_, .f32⟩
  | .hbm, ⟨55, _⟩ => ⟨S4x2047, .f32⟩
  | .hbm, ⟨56, _⟩ => ⟨S4x2047x1, .f32⟩
  | .hbm, ⟨57, _⟩ => ⟨S4x2047x8, .f32⟩
  | .hbm, ⟨58, _⟩ => ⟨S4x2047x8, .f32⟩
  | .hbm, ⟨59, _⟩ => ⟨S4x2047x8x192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S4x2047x8x192, .f32⟩
  | .hbm, ⟨64, _⟩ => ⟨S4x2047x8x192, .f32⟩
  | .hbm, ⟨65, _⟩ => ⟨S4x2047x8x192, .f32⟩
  | .hbm, ⟨66, _⟩ => ⟨S4x2047x8x192, .f32⟩
  | .hbm, ⟨67, _⟩ => ⟨S4x2047x8x192, .f32⟩
  | .hbm, ⟨68, _⟩ => ⟨S4x2047x8x192, .f32⟩
  | .hbm, ⟨69, _⟩ => ⟨S4x2047x8x192, .f32⟩
  | .hbm, ⟨70, _⟩ => ⟨S8x768x4x2047, .f32⟩
  | .hbm, ⟨71, _⟩ => ⟨S4x2047x8x768, .f32⟩
  | .hbm, ⟨72, _⟩ => ⟨S4x2047x768, .f32⟩
  | .hbm, ⟨73, _⟩ => ⟨S4x2047x768, .f32⟩
  | .hbm, ⟨74, _⟩ => ⟨S4x2047x768, .f32⟩
  | .hbm, ⟨75, _⟩ => ⟨S4x2047x768, .f32⟩
  | .hbm, ⟨76, _⟩ => ⟨S4x2048x768, .f32⟩
  | .hbm, ⟨77, _⟩ => ⟨S128x128, .i32⟩
  | .hbm, ⟨78, _⟩ => ⟨S128x128, .i32⟩
  | .hbm, ⟨79, _⟩ => ⟨S_, .i32⟩
  | .hbm, ⟨80, _⟩ => ⟨S128x128, .i32⟩
  | .hbm, ⟨81, _⟩ => ⟨S128x128, .i32⟩
  | .hbm, ⟨82, _⟩ => ⟨S128x128, .i1⟩
  | .hbm, ⟨83, _⟩ => ⟨S128x128, .f32⟩
  | .hbm, ⟨84, _⟩ => ⟨S128x768, .f32⟩
  | .hbm, ⟨85, _⟩ => ⟨S128x128, .f32⟩
  | .hbm, ⟨86, _⟩ => ⟨S128x128, .f32⟩
  | .hbm, ⟨87, _⟩ => ⟨S128x128, .f32⟩
  | .hbm, ⟨88, _⟩ => ⟨S_, .f32⟩
  | .hbm, ⟨89, _⟩ => ⟨S_, .f32⟩
  | .hbm, ⟨90, _⟩ => ⟨S128x768, .f32⟩
  | .hbm, ⟨91, _⟩ => ⟨S128x128, .f32⟩
  | .hbm, ⟨92, _⟩ => ⟨S128x128, .f32⟩
  | .hbm, ⟨93, _⟩ => ⟨S128x128, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S4x2047x8, .f32⟩
  | .hbm, ⟨102, _⟩ => ⟨S4x2047x8, .f32⟩
  | .hbm, ⟨103, _⟩ => ⟨S4x2047x8, .f32⟩
  | .hbm, ⟨104, _⟩ => ⟨S4x2047x8, .f32⟩
  | .hbm, ⟨105, _⟩ => ⟨S4x2047x8, .f32⟩
  | .hbm, ⟨106, _⟩ => ⟨S_, .f32⟩
  | .hbm, ⟨107, _⟩ => ⟨S4x2047, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_10 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_cst_12 : Ref sig .tc := ⟨.hbm, 97, rfl⟩
abbrev main_v74 : Ref sig .tc := ⟨.hbm, 98, rfl⟩
abbrev main_cst_13 : Ref sig .tc := ⟨.hbm, 99, rfl⟩
abbrev main_call0_v0 : Ref sig .tc := ⟨.hbm, 100, rfl⟩
abbrev main_call0_v1 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_cst_16 : Ref sig .tc := ⟨.hbm, 110, rfl⟩
abbrev main_v81 : Ref sig .tc := ⟨.hbm, 111, rfl⟩

abbrev nD : Nat := 1
abbrev τ : Topo := Topo.v7x

variable {F : FTy → Type} [FloatOps F]
-- ==== Proof.BodyRun.lean ====
module

public import proofs.«01_k».proof.Proof.Gen.KernelIdeal.Frame
public import proofs.«01_k».proof.Proof.Gen.KernelIdeal.Skeleton
public import Idealize.ShloMosaic.Lib.Claim
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first grid point: the condition of the body's first branch. -/
abbrev atFirst (i : grid0.Coords) : Prop := k0_cond1 i = 1#1

/-- The last grid point: the condition of the body's second branch. -/
abbrev atLast (i : grid0.Coords) : Prop :=
  (Scalar.cmpi .ne (Scalar.extui (Scalar.cmpi .eq (BitVec.ofNat 32 (i 0).val) 7#32)) 0#32) = 1#1

/-- The routing probabilities of a tile, from the tile, the projection, the masks, gamma and the bias. -/
def probsOf (x : Vec F S1024x768 .f32) (q : Vec F S768x128 .f32) (k : Vec F S8x128 .f32) (g : Vec F S1x128 .f32)
    (b : Vec F S1x8 .f32) : FVec F S1024x8 .f32 :=
  k0_pay10 (k0_pay8 x q k g b) (k0_pay9 x q k g b)

/-- The tile of the first result at grid point `i`. -/
def tileOut (i : grid0.Coords) (x : Vec F S1024x768 .f32) (q : Vec F S768x128 .f32) (k : Vec F S8x128 .f32)
    (g : Vec F S1x128 .f32) (b : Vec F S1x8 .f32) (wd : Vec F S768x1536 .bf16) (wu : Vec F S1536x768 .bf16)
    (ex : Vec F S8x1536 .bf16) : FVec F S1024x768 .f32 :=
  k0_pay2 (k0_pay6 x) (k0_pay11 (k0_pay7 x) (k0_pay8 x q k g b) (k0_pay9 x q k g b) wd ex wu)
    (k0_pay12 (BitVec.ofNat 32 (i 0).val)) (k0_pay13 (BitVec.ofNat 32 (i 0).val))
    (k0_pay14 (BitVec.ofNat 32 (i 0).val)) (k0_pay15 (BitVec.ofNat 32 (i 0).val))

/-- What the second result's cell holds after point `i`: the orthogonality loss at the first point, then kept. -/
def orthoOut (i : grid0.Coords) (q p : Vec F S768x128 .f32) (o : Vec F S1 .f32) : Vec F S1 .f32 :=
  if atFirst i then fun _ => k0_pay3 q q p p else o

/-- The third result's cell when the tile's entropy is added at point `i`: zero at the first point, else what it held. -/
def entIn (i : grid0.Coords) (e : Vec F S1 .f32) : Vec F S1 .f32 :=
  if atFirst i then fun _ => Scalar.ofBits .f32 0x00000000#32 else e

/-- The third result's cell with the tile's entropy added at point `i`. -/
def entSum (i : grid0.Coords) (x : Vec F S1024x768 .f32) (q : Vec F S768x128 .f32) (k : Vec F S8x128 .f32)
    (g : Vec F S1x128 .f32) (b : Vec F S1x8 .f32) (e : Vec F S1 .f32) : Vec F S1 .f32 :=
  fun j => k0_pay4 (probsOf x q k g b) (k0_pay12 (BitVec.ofNat 32 (i 0).val)) (k0_pay13 (BitVec.ofNat 32 (i 0).val))
    (k0_pay14 (BitVec.ofNat 32 (i 0).val)) (k0_pay15 (BitVec.ofNat 32 (i 0).val)) (entIn i e j)

/-- What the third result's cell holds after point `i`: the sum so far, divided by the row count at the last point. -/
def entOut (i : grid0.Coords) (x : Vec F S1024x768 .f32) (q : Vec F S768x128 .f32) (k : Vec F S8x128 .f32)
    (g : Vec F S1x128 .f32) (b : Vec F S1x8 .f32) (e : Vec F S1 .f32) : Vec F S1 .f32 :=
  fun j => if atLast i then k0_pay5 (entSum i x q k g b e j) else entSum i x q k g b e j

/-- A one-cell array has one index. -/
theorem cell_unique (a b : S1.Idx) : a = b :=
  funext fun d => by
    match d with
    | ⟨0, _⟩ =>
      exact Fin.ext ((Nat.lt_one_iff.mp (a 0).isLt).trans (Nat.lt_one_iff.mp (b 0).isLt).symm)

set_option maxHeartbeats 2000000 in
/-- The body at any grid point, on whole staging buffers: the inputs are left as they were, the first result's buffer
    ends at the tile, the two scalar results' cells at what the point makes of their former contents. -/
theorem body_run (c : Dev nD) (i : grid0.Coords) (arg1 : Memref sig .tc .vmem S1024x768 .f32) (harg1 : arg1.IsWhole) (arg2 : Memref sig .tc .vmem S768x128 .f32) (harg2 : arg2.IsWhole) (arg3 : Memref sig .tc .vmem S768x128 .f32) (harg3 : arg3.IsWhole) (arg4 : Memref sig .tc .vmem S1x128 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S768x1536 .bf16) (harg7 : arg7.IsWhole) (arg8 : Memref sig .tc .vmem S1536x768 .bf16) (harg8 : arg8.IsWhole) (arg9 : Memref sig .tc .vmem S8x1536 .bf16) (harg9 : arg9.IsWhole) (arg10 : Memref sig .tc .smem S1 .f32) (harg10 : arg10.IsWhole) (arg11 : Memref sig .tc .vmem S1024x768 .f32) (harg11 : arg11.IsWhole) (arg12 : Memref sig .tc .smem S1 .f32) (harg12 : arg12.IsWhole) (arg13 : Memref sig .tc .smem S1 .f32) (harg13 : arg13.IsWhole)
    (x0 : Vec F S1024x768 .f32) (x1 : Vec F S768x128 .f32) (x2 : Vec F S768x128 .f32) (x3 : Vec F S1x128 .f32) (x4 : Vec F S8x128 .f32) (x5 : Vec F S1x8 .f32) (x6 : Vec F S768x1536 .bf16) (x7 : Vec F S1536x768 .bf16) (x8 : Vec F S8x1536 .bf16) (x9 : Vec F S1 .f32) (o e : Vec F S1 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare o ∗ owns (c : Thread nD τ) arg13 fullShare e
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (tileOut i x0 x1 x4 x3 x5 x6 x7 x8) ∗ owns (c : Thread nD τ) arg12 fullShare (orthoOut i x1 x2 o) ∗ owns (c : Thread nD τ) arg13 fullShare (entOut i x0 x1 x4 x3 x5 e)) -∗ K ⟨⟩))
          ⊢ wp frame (wpE (defs₀ (F := F)) Variants.none c none) E (cc0__moe_kernel i arg1 harg1 arg2 harg2 arg3 harg3 arg4 harg4 arg5 harg5 arg6 harg6 arg7 harg7 arg8 harg8 arg9 harg9 arg10 harg10 arg11 harg11 arg12 harg12 arg13 harg13) K := by
  simp only [cc0__moe_kernel_eq_skeleton]; unfold cc0__moe_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12
  have e1 : View.readAt (Elt F) arg1.view (Rect.unit (s := S1024x768) ![0, 0] ![1024, 768] inb_S1024x768_S1024x768_0_0).toLoadRect (harg1.unread x0) = x0 := (View.readAt_full _ _ _).trans hf0
  have e2 : View.readAt (Elt F) arg2.view (Rect.unit (s := S768x128) ![0, 0] ![768, 128] inb_S768x128_S768x128_0_0).toLoadRect (harg2.unread x1) = x1 := (View.readAt_full _ _ _).trans hf1
  have e3 : View.readAt (Elt F) arg3.view (Rect.unit (s := S768x128) ![0, 0] ![768, 128] inb_S768x128_S768x128_0_0).toLoadRect (harg3.unread x2) = x2 := (View.readAt_full _ _ _).trans hf2
  have e4 : View.readAt (Elt F) arg4.view (Rect.unit (s := S1x128) ![0, 0] ![1, 128] inb_S1x128_S1x128_0_0).toLoadRect (harg4.unread x3) = x3 := (View.readAt_full _ _ _).trans hf3
  have e5 : View.readAt (Elt F) arg5.view (Rect.unit (s := S8x128) ![0, 0] ![8, 128] inb_S8x128_S8x128_0_0).toLoadRect (harg5.unread x4) = x4 := (View.readAt_full _ _ _).trans hf4
  have e6 : View.readAt (Elt F) arg6.view (Rect.unit (s := S1x8) ![0, 0] ![1, 8] inb_S1x8_S1x8_0_0).toLoadRect (harg6.unread x5) = x5 := (View.readAt_full _ _ _).trans hf5
  have e7 : View.readAt (Elt F) arg7.view (Rect.unit (s := S768x1536) ![0, 0] ![768, 1536] inb_S768x1536_S768x1536_0_0).toLoadRect (harg7.unread x6) = x6 := (View.readAt_full _ _ _).trans hf6
  have e8 : View.readAt (Elt F) arg8.view (Rect.unit (s := S1536x768) ![0, 0] ![1536, 768] inb_S1536x768_S1536x768_0_0).toLoadRect (harg8.unread x7) = x7 := (View.readAt_full _ _ _).trans hf7
  have e9 : View.readAt (Elt F) arg9.view (Rect.unit (s := S8x1536) ![0, 0] ![8, 1536] inb_S8x1536_S8x1536_0_0).toLoadRect (harg9.unread x8) = x8 := (View.readAt_full _ _ _).trans hf8
  have e12 : View.readAt (Elt F) arg12.view (Rect.unit (s := S1) ![0] ![1] inb_S1_S1_0).toLoadRect (harg12.unread o) = o := (View.readAt_full _ _ _).trans hf11
  have e13 : View.readAt (Elt F) arg13.view (Rect.unit (s := S1) ![0] ![1] inb_S1_S1_0).toLoadRect (harg13.unread e) = e := (View.readAt_full _ _ _).trans hf12
  by_cases h0 : atFirst i
  all_goals by_cases h1 : atLast i
  all_goals
    sl_exec (disch := first | sl_exact h0 | sl_exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; swap; · iexact H10
      ipureintro
      exact (View.read_writes_full _ _ _ _ _).trans rfl
    isplitl [H11]
    · iexists _; isplitr; swap; · iexact H11
      ipureintro
      unfold orthoOut
      first
      | rw [if_pos h0]; exact View.read_writes_full _ _ _ _ _
      | rw [if_neg h0]; exact hf11
    iexists _; isplitr; swap; · iexact H12
    ipureintro
    refine (View.read_writes_full _ _ _ _ _).trans ?_
    funext j
    unfold entOut
    first
    | rw [if_pos h1]; refine congrArg k0_pay5 ?_
    | rw [if_neg h1]
    unfold entSum entIn
    first
    | rw [if_pos h0]; rfl
    | rw [if_neg h0]
      exact congrArg (k0_pay4 (probsOf x0 x1 x4 x3 x5) (k0_pay12 (BitVec.ofNat 32 (i 0).val))
        (k0_pay13 (BitVec.ofNat 32 (i 0).val)) (k0_pay14 (BitVec.ofNat 32 (i 0).val)) (k0_pay15 (BitVec.ofNat 32 (i 0).val)))
        (congrArg e (cell_unique _ j))

end Cert.KernelIdeal.Hand

end
-- ==== Proof.RegionRun.lean ====
module

public import proofs.«01_k».proof.Proof.BodyRun
public import Idealize.ShloMosaic.Lib.Pipeline.TableIdle

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's first branch is taken at the first grid point only. -/
theorem atFirst_iff : ∀ t : Fin cfg0.N, atFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have e1 : t.val = 0 ↔ t.val % 8 = 0 := by omega
    rw [e1]
    simp only [atFirst, k0_cond1, e0]
    word_cmp
   : ∀ t : Fin grid0.N, atFirst (grid0.coords t) ↔ t.val = 0)

/-- The body's second branch is taken at the last grid point only. -/
theorem atLast_iff : ∀ t : Fin cfg0.N, atLast (grid0.coords t) ↔ t.val = 7 :=
  (fun t => by
    have ht : t.val < 8 := Nat.lt_of_lt_of_eq t.isLt N_0
    have e0 : (grid0.coords t 0).val = t.val / 1 % 8 := Pipeline.Grid.coords_val t 0 (by decide) rfl
    have e1 : t.val = 7 ↔ t.val % 8 = 7 := by omega
    rw [e1]
    simp only [atLast, e0]
    word_cmp
   : ∀ t : Fin grid0.N, atLast (grid0.coords t) ↔ t.val = 7)

/-- The grid point of number `n` (read modulo the eight points). -/
def pt (n : ℕ) : Fin cfg0.N := ⟨n % 8, Nat.lt_of_lt_of_eq (Nat.mod_lt n (by omega)) N_0.symm⟩

/-- A point is the point of its number. -/
theorem pt_val (t : Fin cfg0.N) : pt t.val = t :=
  Fin.ext (Nat.mod_eq_of_lt (Nat.lt_of_lt_of_eq t.isLt N_0))

/-- The tile of the first result written at point `t`. -/
def tileAt (c : Dev nD) (t : Fin cfg0.N) : Vec F S1024x768 .f32 :=
  tileOut (grid0.coords t) (iblk m c 0 t) (iblk m c 1 t) (iblk m c 4 t) (iblk m c 3 t) (iblk m c 5 t) (iblk m c 6 t)
    (iblk m c 7 t) (iblk m c 8 t)

/-- The second result: the orthogonality loss of the two projections, as the first point computes it. -/
def orthoAt (c : Dev nD) : Vec F S1 .f32 :=
  fun _ => k0_pay3 (iblk m c 1 (pt 0)) (iblk m c 1 (pt 0)) (iblk m c 2 (pt 0)) (iblk m c 2 (pt 0))

/-- The third result's cell after point `n`, from what the point before left there. -/
def entSeq (c : Dev nD) : ℕ → Vec F S1 .f32
  | 0 => entOut (grid0.coords (pt 0)) (iblk m c 0 (pt 0)) (iblk m c 1 (pt 0)) (iblk m c 4 (pt 0)) (iblk m c 3 (pt 0))
      (iblk m c 5 (pt 0)) (fun _ => Scalar.ofBits .f32 0x00000000#32)
  | n + 1 => entOut (grid0.coords (pt (n + 1))) (iblk m c 0 (pt (n + 1))) (iblk m c 1 (pt (n + 1)))
      (iblk m c 4 (pt (n + 1))) (iblk m c 3 (pt (n + 1))) (iblk m c 5 (pt (n + 1))) (entSeq c n)

/-- The proof data of the pipeline on core `c`: every input's buffer at its block, the first result's at its tile, the
    two scalar results' cells at what the points so far leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => tileAt m c t
    | ⟨11, _⟩ => orthoAt m c
    | ⟨12, _⟩ => entSeq m c t.val
  Φ _ := Pipeline.ΦA spec0 c
  q _ := fullShare
  owed _ := 0

/-- Each window's array starts at what the host operations before the region left in it. -/
theorem A_eq (c : Dev nD) (w : Fin cfg0.W) : (dats m 0 c).A w = V m c (Pipeline.arrRef spec0 w) := by
  dsimp only [dats]

/-- After a point, input window 0 still holds its block. -/
theorem after_0 (c : Dev nD) (t : Fin cfg0.N) : (dats m 0 c).after 0 t = iblk m c 0 t := by dsimp only [dats]
/-- After a point, input window 1 still holds its block. -/
theorem after_1 (c : Dev nD) (t : Fin cfg0.N) : (dats m 0 c).after 1 t = iblk m c 1 t := by dsimp only [dats]
/-- After a point, input window 2 still holds its block. -/
theorem after_2 (c : Dev nD) (t : Fin cfg0.N) : (dats m 0 c).after 2 t = iblk m c 2 t := by dsimp only [dats]
/-- After a point, input window 3 still holds its block. -/
theorem after_3 (c : Dev nD) (t : Fin cfg0.N) : (dats m 0 c).after 3 t = iblk m c 3 t := by dsimp only [dats]
/-- After a point, input window 4 still holds its block. -/
theorem after_4 (c : Dev nD) (t : Fin cfg0.N) : (dats m 0 c).after 4 t = iblk m c 4 t := by dsimp only [dats]
/-- After a point, input window 5 still holds its block. -/
theorem after_5 (c : Dev nD) (t : Fin cfg0.N) : (dats m 0 c).after 5 t = iblk m c 5 t := by dsimp only [dats]
/-- After a point, input window 6 still holds its block. -/
theorem after_6 (c : Dev nD) (t : Fin cfg0.N) : (dats m 0 c).after 6 t = iblk m c 6 t := by dsimp only [dats]
/-- After a point, input window 7 still holds its block. -/
theorem after_7 (c : Dev nD) (t : Fin cfg0.N) : (dats m 0 c).after 7 t = iblk m c 7 t := by dsimp only [dats]
/-- After a point, input window 8 still holds its block. -/
theorem after_8 (c : Dev nD) (t : Fin cfg0.N) : (dats m 0 c).after 8 t = iblk m c 8 t := by dsimp only [dats]
/-- After a point, input window 9 still holds its block. -/
theorem after_9 (c : Dev nD) (t : Fin cfg0.N) : (dats m 0 c).after 9 t = iblk m c 9 t := by dsimp only [dats]
/-- After a point, the first result's tile holds its stated contents. -/
theorem after_10 (c : Dev nD) (t : Fin cfg0.N) : (dats m 0 c).after 10 t = tileAt m c t := by dsimp only [dats]
/-- After a point, the second result's cell holds its stated contents. -/
theorem after_11 (c : Dev nD) (t : Fin cfg0.N) : (dats m 0 c).after 11 t = orthoAt m c := by dsimp only [dats]
/-- After a point, the third result's cell holds its stated contents. -/
theorem after_12 (c : Dev nD) (t : Fin cfg0.N) : (dats m 0 c).after 12 t = entSeq m c t.val := by dsimp only [dats]

/-- Before a point, input window 0 holds its block. -/
theorem before_0 (c : Dev nD) (t : Fin cfg0.N) (d) : (dats m 0 c).before 0 t d = iblk m c 0 t :=
  before0_0_of m (dats m 0 c) (A_eq m c 0) (after_0 m c) t d
/-- Before a point, input window 1 holds its block. -/
theorem before_1 (c : Dev nD) (t : Fin cfg0.N) (d) : (dats m 0 c).before 1 t d = iblk m c 1 t :=
  before0_1_of m (dats m 0 c) (A_eq m c 1) (after_1 m c) t d
/-- Before a point, input window 2 holds its block. -/
theorem before_2 (c : Dev nD) (t : Fin cfg0.N) (d) : (dats m 0 c).before 2 t d = iblk m c 2 t :=
  before0_2_of m (dats m 0 c) (A_eq m c 2) (after_2 m c) t d
/-- Before a point, input window 3 holds its block. -/
theorem before_3 (c : Dev nD) (t : Fin cfg0.N) (d) : (dats m 0 c).before 3 t d = iblk m c 3 t :=
  before0_3_of m (dats m 0 c) (A_eq m c 3) (after_3 m c) t d
/-- Before a point, input window 4 holds its block. -/
theorem before_4 (c : Dev nD) (t : Fin cfg0.N) (d) : (dats m 0 c).before 4 t d = iblk m c 4 t :=
  before0_4_of m (dats m 0 c) (A_eq m c 4) (after_4 m c) t d
/-- Before a point, input window 5 holds its block. -/
theorem before_5 (c : Dev nD) (t : Fin cfg0.N) (d) : (dats m 0 c).before 5 t d = iblk m c 5 t :=
  before0_5_of m (dats m 0 c) (A_eq m c 5) (after_5 m c) t d
/-- Before a point, input window 6 holds its block. -/
theorem before_6 (c : Dev nD) (t : Fin cfg0.N) (d) : (dats m 0 c).before 6 t d = iblk m c 6 t :=
  before0_6_of m (dats m 0 c) (A_eq m c 6) (after_6 m c) t d
/-- Before a point, input window 7 holds its block. -/
theorem before_7 (c : Dev nD) (t : Fin cfg0.N) (d) : (dats m 0 c).before 7 t d = iblk m c 7 t :=
  before0_7_of m (dats m 0 c) (A_eq m c 7) (after_7 m c) t d
/-- Before a point, input window 8 holds its block. -/
theorem before_8 (c : Dev nD) (t : Fin cfg0.N) (d) : (dats m 0 c).before 8 t d = iblk m c 8 t :=
  before0_8_of m (dats m 0 c) (A_eq m c 8) (after_8 m c) t d
/-- Before a point, input window 9 holds its block. -/
theorem before_9 (c : Dev nD) (t : Fin cfg0.N) (d) : (dats m 0 c).before 9 t d = iblk m c 9 t :=
  before0_9_of m (dats m 0 c) (A_eq m c 9) (after_9 m c) t d

/-- The second result's cell is stored into at the first point, so that it is never found unwritten later on. -/
theorem fresh_11 : ∀ n : Fin 7, cfg0.fresh 11 (n.val + 1) = false := by decide +kernel

/-- After the first point, the second result's cell holds what the first point stored. -/
theorem before_11 (c : Dev nD) (t : Fin cfg0.N) (ht : t.val ≠ 0) (d) : (dats m 0 c).before 11 t d = orthoAt m c := by
  have hN : t.val < 8 := Nat.lt_of_lt_of_eq t.isLt N_0
  have hf : cfg0.fresh 11 t.val = false := by
    have h := fresh_11 ⟨t.val - 1, by omega⟩
    rwa [show t.val - 1 + 1 = t.val by omega] at h
  rw [(dats m 0 c).before_out_traj 11 rfl (fun _ _ => rfl)
    (fun s _ _ _ => (after_11 m c s).trans (after_11 m c _).symm) t.val t rfl d, hf, if_neg Bool.false_ne_true]
  exact after_11 m c _

/-- After the first point, the third result's cell holds what the point before left. -/
theorem before_12 (c : Dev nD) (t : Fin cfg0.N) (ht : t.val ≠ 0) (d) :
    (dats m 0 c).before 12 t d = entSeq m c (t.val - 1) :=
  ((dats m 0 c).before_out_kept 12 rfl t ht
    (Bool.eq_false_iff.mpr fun h => by
      have h7 := (flush0_12 _).mp h
      have hN : t.val < 8 := Nat.lt_of_lt_of_eq t.isLt N_0
      dsimp only at h7; omega) (fun _ => rfl) (fun _ _ => rfl) d).trans (after_12 m c _)

/-- What a point makes of the second result's cell is the loss, whichever point it is. -/
theorem ortho_step (c : Dev nD) (t : Fin cfg0.N) (d) :
    orthoOut (grid0.coords t) (iblk m c 1 t) (iblk m c 2 t) ((dats m 0 c).before 11 t d) = orthoAt m c := by
  by_cases ht : t.val = 0
  · obtain rfl : t = pt 0 := by rw [← pt_val t, ht]
    exact if_pos ((atFirst_iff _).mpr ht)
  · rw [before_11 m c t ht]
    exact if_neg fun h => ht ((atFirst_iff _).mp h)

/-- What a point makes of the third result's cell is the next term of the sequence. -/
theorem ent_step (c : Dev nD) (t : Fin cfg0.N) (d) :
    entOut (grid0.coords t) (iblk m c 0 t) (iblk m c 1 t) (iblk m c 4 t) (iblk m c 3 t) (iblk m c 5 t)
      ((dats m 0 c).before 12 t d) = entSeq m c t.val := by
  by_cases ht : t.val = 0
  · obtain rfl : t = pt 0 := by rw [← pt_val t, ht]
    have h1 : atFirst (grid0.coords (pt 0)) := (atFirst_iff _).mpr ht
    rw [ht]
    unfold entSeq entOut entSum entIn
    rw [if_pos h1, if_pos h1]
  · rw [before_12 m c t ht]
    obtain ⟨n, hn⟩ := Nat.exists_eq_succ_of_ne_zero ht
    have e : pt (n + 1) = t := by rw [← Nat.succ_eq_add_one, ← hn]; exact pt_val t
    rw [hn, Nat.succ_sub_one]
    conv_rhs => unfold entSeq
    rw [e]

/-- What a point has to leave in the buffer of input window 0. -/
theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
/-- What a point has to leave in the buffer of input window 1. -/
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
/-- What a point has to leave in the buffer of input window 2. -/
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
/-- What a point has to leave in the buffer of input window 3. -/
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
/-- What a point has to leave in the buffer of input window 4. -/
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
/-- What a point has to leave in the buffer of input window 5. -/
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
/-- What a point has to leave in the buffer of input window 6. -/
theorem leaves_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after_6]
/-- What a point has to leave in the buffer of input window 7. -/
theorem leaves_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after_7]
/-- What a point has to leave in the buffer of input window 8. -/
theorem leaves_8 (c : Dev nD) (t : Fin cfg0.N) : (dats m 0 c).leavesExact 8 t = owns (c : Thread nD τ) (st0_8 t) fullShare (iblk m c 8 t) := by
  unfold Dat.leavesExact; rw [show cfg0.idle 8 (grid0.coords t) = false from rfl, after_8]
/-- What a point has to leave in the buffer of input window 9. -/
theorem leaves_9 (c : Dev nD) (t : Fin cfg0.N) : (dats m 0 c).leavesExact 9 t = owns (c : Thread nD τ) (st0_9 t) fullShare (iblk m c 9 t) := by
  unfold Dat.leavesExact; rw [show cfg0.idle 9 (grid0.coords t) = false from rfl, after_9]
/-- What a point has to leave in the buffer of the first result's tile. -/
theorem leaves_10 (c : Dev nD) (t : Fin cfg0.N) : (dats m 0 c).leavesExact 10 t = owns (c : Thread nD τ) (st0_10 t) fullShare (tileAt m c t) := by
  unfold Dat.leavesExact; rw [show cfg0.idle 10 (grid0.coords t) = false from rfl, after_10]
/-- The second result's cell, left at the loss: at a point that does not store into it, as it was found. -/
theorem leaves_11 (c : Dev nD) (t : Fin cfg0.N) :
    (owns (c : Thread nD τ) (st0_11 t) fullShare (orthoAt m c) : sProp 𝕄) ⊢ (dats m 0 c).leavesExact 11 t := by
  unfold Dat.leavesExact
  cases hi : cfg0.idle 11 (grid0.coords t)
  · rw [after_11]
  · cases hf : (cfg0.win 11).flush t
    · have ht : t.val ≠ 0 := fun h0 => by
        have h1 : atFirst (grid0.coords t) := (atFirst_iff t).mpr h0
        have h2 : cfg0.idle 11 (grid0.coords t) = !(k0_cond1 (grid0.coords t) == 1#1) := rfl
        rw [hi, show k0_cond1 (grid0.coords t) = 1#1 from h1] at h2
        exact absurd h2 (by decide)
      iintro H
      iexists orthoAt m c
      rw [before_11 m c t ht]
      iexact H
    · rw [after_11]
/-- What a point has to leave in the buffer of the third result's cell. -/
theorem leaves_12 (c : Dev nD) (t : Fin cfg0.N) : (dats m 0 c).leavesExact 12 t = owns (c : Thread nD τ) (st0_12 t) fullShare (entSeq m c t.val) := by
  unfold Dat.leavesExact; rw [show cfg0.idle 12 (grid0.coords t) = false from rfl, after_12]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 3600000 in
/-- The body at any point: it finds the inputs' blocks and the scalar cells as the point before left them, and leaves
    the proof data's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [leaves_0, leaves_1, leaves_2, leaves_3, leaves_4, leaves_5, leaves_6, leaves_7, leaves_8, leaves_9, leaves_10, leaves_12]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [← ent_step m c t d12]
  iapply (body_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) ((dats m 0 c).before 11 t d11) ((dats m 0 c).before 12 t d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  rw [ortho_step m c t d11]
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (leaves_11 m c t); iexact H11
  iexact H12

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every execution ends with the region's arrays at the proof data's contents, the other buffers at what
    the host operations leave, and every semaphore counter at zero. -/
theorem run_main_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

end Cert.KernelIdeal.Hand

end
-- ==== Proof.Frames.lean ====
/- The three programs run, end with their arguments unchanged, and leave every counter at zero. -/
module

public import proofs.«01_k».proof.Defs
public import proofs.«01_k».proof.Proof.RegionRun
public import proofs.«01_k».proof.Proof.Gen.Kernel
public import proofs.«01_k».proof.Proof.Gen.ReferenceIdeal.Run
public import proofs.«01_k».proof.Proof.Gen.Pre_finite_experts

@[expose] public section

set_option maxRecDepth 16384

noncomputable section

namespace Cert.Hand

open Idealize.ShloMosaic Idealize.ShloMosaic.TcCoe Idealize.SL.Sem

/-- What a frame asks of the idealized kernel's text launched on memory `m`, at any floats: every argument array is as it
    was, and every counter reads zero. -/
def RunsUnchanged {F : FTy → Type} [FloatOps F]
    (m : (ℓ : Loc Cert.KernelIdeal.nD Cert.KernelIdeal.τ Cert.KernelIdeal.sig) → Buf (Elt F) ℓ) (ρ : Dev Cert.KernelIdeal.nD → PrngReg) : Prop :=
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

/-- The kernel's launch read at the arguments, and the counters, at any floats. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    RunsUnchanged m ρ :=
  θ_run_and (Cert.KernelIdeal.Gen.frame_of m ρ (Cert.KernelIdeal.Hand.dats m) (Cert.KernelIdeal.Hand.A_eq m)
      (Cert.KernelIdeal.Hand.run_main m ρ))
    ((θ_run _ _ _).mono (fun _ h => h.2) (Cert.KernelIdeal.Hand.run_main_quiescent m ρ))

/-- The idealized kernel's frame. -/
theorem frame_kernelIdeal : Cert.quiescent_KernelIdeal := fun m ρ _ => frame_any m ρ

/-- The kernel and its idealization are one text (no rule was applied), so the kernel's frame is the idealized text's,
    read at the bits. -/
theorem same_text : Cert.quiescent_Kernel =
    (∀ (m : (ℓ : Loc Cert.KernelIdeal.nD Cert.KernelIdeal.τ Cert.KernelIdeal.sig) → Buf (Elt Bits) ℓ) (ρ : Dev Cert.KernelIdeal.nD → PrngReg),
      Cert.Pre_Kernel m → RunsUnchanged m ρ) := by chain_rfl

/-- The kernel's frame. -/
theorem frame_kernel : Cert.quiescent_Kernel := same_text.mpr fun m ρ _ => frame_any m ρ

/-- The idealized kernel's frame on the inputs the value claim takes. -/
theorem frame_kernelIdeal_pre : Cert.quiescent_KernelIdeal_pre_finite_experts := fun m ρ _ => frame_any m ρ

/-- The idealized reference's frame: its run read at the arguments; it declares no semaphore. -/
theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The idealized reference's frame on the inputs the value claim takes. -/
theorem frame_referenceIdeal_pre : Cert.quiescent_ReferenceIdeal_pre_finite_experts := fun m ρ _ => frame_referenceIdeal m ρ trivial

end Cert.Hand

end
-- ==== Proof.Spec.lean ====
module

public import Idealize.ShloMosaic.PureOps.Ideal.Laws
public import Idealize.ShloMosaic.Lib.IdealHost
public import Idealize.ShloMosaic.Lib.Pipeline.ValueKit

/-!
What one token's row goes through, over the extended reals, free of the two programs: the share of
energy per spectral direction, the softmax over the eight experts, the router's probabilities, the
sum of the experts, and the entropy of a row.  Both programs are read down to these functions.
-/

@[expose] public section
set_option maxRecDepth 16384
noncomputable section
namespace Cert.Hand
open Idealize.ShloMosaic

/-- An extended real that is a real number. -/
def IsReal (x : EReal) : Prop := ∃ r : ℝ, x = (r : EReal)

/-- A real number is real. -/
theorem IsReal.coe (r : ℝ) : IsReal (r : EReal) := ⟨r, rfl⟩

/-- The sum of two reals is real. -/
theorem IsReal.add {x y : EReal} : IsReal x → IsReal y → IsReal (x + y) := by
  rintro ⟨a, rfl⟩ ⟨b, rfl⟩
  exact ⟨a + b, (EReal.coe_add a b).symm⟩

/-- The product of two reals is real. -/
theorem IsReal.mul {x y : EReal} : IsReal x → IsReal y → IsReal (x * y) := by
  rintro ⟨a, rfl⟩ ⟨b, rfl⟩
  exact ⟨a * b, (EReal.coe_mul a b).symm⟩

/-- A finite sum of real numbers is the same taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- An extended real strictly between the two infinities is real. -/
theorem IsReal.of_lt {x : EReal} (h₁ : ⊥ < x) (h₂ : x < ⊤) : IsReal x :=
  ⟨x.toReal, (EReal.coe_toReal h₂.ne h₁.ne').symm⟩

/-- The quotient of a real by a real that is not zero is real. -/
theorem IsReal.div {x : EReal} (hx : IsReal x) {y : ℝ} (hy : y ≠ 0) : IsReal (Ideal.div x y) := by
  rw [Ideal.div_coe hy]
  exact hx.mul (.coe _)

/-- The word `0xFF800000` is minus infinity. -/
theorem negInf_eq : Ideal.ofBits .f32 4286578688#32 = ⊥ := by simp [Ideal.ofBits, Ideal.ieee]

/-- The number `1e-6` of the energy's denominator is a positive real. -/
theorem eps_eq : ∃ c : ℝ, 0 < c ∧ Ideal.ofBits .f32 897988541#32 = (c : EReal) := by
  refine ⟨8796093 / 2 ^ 43, by norm_num, ?_⟩
  simp [Ideal.ofBits, Ideal.ieee, -EReal.coe_mul]
  norm_num

/-- The largest entry of a row of eight, never below minus infinity. -/
def top8 (l : Fin 8 → EReal) : EReal :=
  max (Ideal.ofBits .f32 4286578688#32) (Finset.univ.fold max (Ideal.ofBits .f32 4286578688#32) l)

/-- Softmax over eight entries, shifted by the largest. -/
def softmax (l : Fin 8 → EReal) (e : Fin 8) : EReal :=
  Ideal.div (Ideal.exp (l e - top8 l)) (∑ e', Ideal.exp (l e' - top8 l))

/-- The largest of eight reals is real. -/
theorem IsReal.top8 {l : Fin 8 → EReal} (h : ∀ e, IsReal (l e)) : IsReal (top8 l) := by
  choose a ha using h
  obtain rfl : l = fun e => (a e : EReal) := funext ha
  unfold Hand.top8
  rw [negInf_eq, max_eq_right bot_le]
  refine .of_lt ((Finset.lt_fold_max _).mpr (.inr ⟨0, Finset.mem_univ _, EReal.bot_lt_coe _⟩))
    ((Finset.fold_max_lt _).mpr ⟨bot_lt_top, fun e _ => EReal.coe_lt_top _⟩)

/-- The softmax of eight reals is real. -/
theorem IsReal.softmax {l : Fin 8 → EReal} (h : ∀ e, IsReal (l e)) (e : Fin 8) : IsReal (softmax l e) := by
  obtain ⟨t, ht⟩ := IsReal.top8 h
  choose a ha using h
  have hx : ∀ e, Ideal.exp (l e - Hand.top8 l) = (Real.exp (a e - t) : EReal) := fun e => by
    rw [ht, ha, ← EReal.coe_sub, Ideal.exp_coe]
  unfold Hand.softmax
  simp only [hx]
  rw [← coe_sum]
  exact (IsReal.coe _).div (Finset.sum_pos (fun e _ => Real.exp_pos _) ⟨0, Finset.mem_univ _⟩).ne'

/-- A row's coefficient along one spectral direction. -/
def proj (x : Fin 768 → EReal) (q : Fin 768 → Fin 128 → EReal) (r : Fin 128) : EReal := ∑ d, x d * q d r

/-- The share of a row's energy that lies along one spectral direction. -/
def energy (x : Fin 768 → EReal) (q : Fin 768 → Fin 128 → EReal) (r : Fin 128) : EReal :=
  Ideal.div (proj x q r * proj x q r) (∑ r', proj x q r' * proj x q r' + Ideal.ofBits .f32 897988541#32)

/-- The square of an extended real is not negative. -/
theorem sq_nonneg' (z : EReal) : 0 ≤ z * z := by
  induction z with
  | bot => simp
  | top => simp
  | coe r => rw [← EReal.coe_mul]; exact_mod_cast mul_self_nonneg r

/-- The share of energy is real, whatever the row: where the total is infinite the share is zero. -/
theorem IsReal.energy (x : Fin 768 → EReal) (q : Fin 768 → Fin 128 → EReal) (r : Fin 128) : IsReal (energy x q r) := by
  obtain ⟨c, hc, hce⟩ := eps_eq
  unfold Hand.energy
  rw [hce]
  have hle : proj x q r * proj x q r ≤ ∑ r', proj x q r' * proj x q r' :=
    Finset.single_le_sum (f := fun r' => proj x q r' * proj x q r') (fun r' _ => sq_nonneg' _) (Finset.mem_univ r)
  have h0 : 0 ≤ proj x q r * proj x q r := sq_nonneg' _
  generalize proj x q r * proj x q r = a at *
  generalize (∑ r', proj x q r' * proj x q r') = s at *
  induction s with
  | bot => exact absurd (h0.trans hle) (by simp)
  | top => exact ⟨0, by simp [Ideal.div]⟩
  | coe s =>
    have hs : (0 : ℝ) ≤ s := by exact_mod_cast h0.trans hle
    rw [← EReal.coe_add]
    exact (IsReal.of_lt (lt_of_lt_of_le (by simp) h0) (hle.trans_lt (EReal.coe_lt_top _))).div (by positivity)

/-- The logit of one expert: the energies weighed by the expert's mask and by gamma, plus the bias. -/
def logit (x : Fin 768 → EReal) (q : Fin 768 → Fin 128 → EReal) (k : Fin 8 → Fin 128 → EReal) (g : Fin 128 → EReal)
    (b : Fin 8 → EReal) (e : Fin 8) : EReal :=
  Ideal.div (∑ r, energy x q r * (softmax (fun e' => k e' r) e * g r) + b e) 1

/-- The router's probability of one expert. -/
def prob (x : Fin 768 → EReal) (q : Fin 768 → Fin 128 → EReal) (k : Fin 8 → Fin 128 → EReal) (g : Fin 128 → EReal)
    (b : Fin 8 → EReal) (e : Fin 8) : EReal :=
  softmax (logit x q k g b) e

/-- With real masks, gamma and bias the router's probabilities are real. -/
theorem IsReal.prob (x : Fin 768 → EReal) (q : Fin 768 → Fin 128 → EReal) {k : Fin 8 → Fin 128 → EReal} {g : Fin 128 → EReal}
    {b : Fin 8 → EReal} (hk : ∀ e r, IsReal (k e r)) (hg : ∀ r, IsReal (g r)) (hb : ∀ e, IsReal (b e)) (e : Fin 8) :
    IsReal (prob x q k g b e) := by
  refine IsReal.softmax (fun e => ?_) e
  have h1 : (1 : EReal) = ((1 : ℝ) : EReal) := rfl
  unfold logit
  rw [h1]
  exact ((IsReal.sum _ fun r => (IsReal.energy x q r).mul ((IsReal.softmax (fun e' => hk e' r) e).mul (hg r))).add (hb e)).div
    one_ne_zero

/-- The entropy of one row of probabilities, each kept at or above `1e-9` inside the logarithm. -/
def rowEntropy (p : Fin 8 → EReal) : EReal :=
  ∑ e, -(p e * Ideal.log (max (Ideal.ofBits .f32 814313567#32) (p e)))

/-- The experts on one row as the reference has them: each expert's two-layer map with the exact GELU, weighed by the
    router's probability, and the whole scaled. -/
def experts (p : Fin 8 → EReal) (x : Fin 768 → EReal) (dn : Fin 8 → Fin 192 → Fin 768 → EReal)
    (up : Fin 8 → Fin 768 → Fin 192 → EReal) (a : EReal) (d : Fin 768) : EReal :=
  a * ∑ e, p e * ∑ n, up e d n * (Ideal.ofBits .f32 1056964608#32 * (∑ d', x d' * dn e n d') *
    Ideal.erfc (-(∑ d', x d' * dn e n d') * Ideal.sqrt (Ideal.ofBits .f32 1056964608#32)))

/-- The expert that owns one of the 1536 hidden units of all experts side by side. -/
def ownerOf (j : Fin 1536) : Fin 8 := ⟨j.val / 192, by omega⟩

/-- The place of a hidden unit within its expert. -/
def unitOf (j : Fin 1536) : Fin 192 := ⟨j.val % 192, Nat.mod_lt _ (by decide)⟩

/-- The experts on one row as the kernel has them: all experts' hidden units side by side, the scale of the GELU's argument
    in the first weights, its other factors and the output's scale in the second. -/
def expertsFused (p : Fin 8 → EReal) (x : Fin 768 → EReal) (dn : Fin 8 → Fin 192 → Fin 768 → EReal)
    (up : Fin 8 → Fin 768 → Fin 192 → EReal) (a : EReal) (d : Fin 768) : EReal :=
  ∑ j : Fin 1536, ((∑ d', x d' * (dn (ownerOf j) (unitOf j) d' * Ideal.sqrt (Ideal.ofBits .f32 1056964608#32))) *
      (1 + Ideal.erf (∑ d', x d' * (dn (ownerOf j) (unitOf j) d' * Ideal.sqrt (Ideal.ofBits .f32 1056964608#32)))) *
      ∑ e, p e * (if e = ownerOf j then (1 : EReal) else 0)) *
    (up (ownerOf j) d (unitOf j) * (a * (Ideal.ofBits .f32 1056964608#32 * Ideal.sqrt (Ideal.ofBits .f32 1073741824#32))))

/-- The word `0x3F000000` is one half. -/
theorem half_eq : Ideal.ofBits .f32 1056964608#32 = ((1 / 2 : ℝ) : EReal) := by
  simp [Ideal.ofBits, Ideal.ieee, -EReal.coe_mul]
  norm_num

/-- The word `0x40000000` is two. -/
theorem two_eq : Ideal.ofBits .f32 1073741824#32 = ((2 : ℝ) : EReal) := by
  simp [Ideal.ofBits, Ideal.ieee, -EReal.coe_mul]
  norm_num

/-- The error function of a real is real. -/
theorem erf_real : ∃ f : ℝ → ℝ, ∀ r : ℝ, Ideal.erf (r : EReal) = (f r : EReal) :=
  ⟨fun r => (Ideal.erf (r : EReal)).toReal, fun r => by simp only [Ideal.erf_coe, EReal.toReal_coe]⟩

/-- A sum over the 1536 hidden units is a sum over the experts of sums over their units. -/
theorem sum_units (f : Fin 8 → Fin 192 → ℝ) : ∑ j : Fin 1536, f (ownerOf j) (unitOf j) = ∑ e, ∑ n, f e n :=
  Fin.sum_univ_mul_divNat_modNat 8 192 f

/-- On real inputs the fused form of the experts is the reference's. -/
theorem expertsFused_eq {p : Fin 8 → EReal} {x : Fin 768 → EReal} {dn : Fin 8 → Fin 192 → Fin 768 → EReal}
    {up : Fin 8 → Fin 768 → Fin 192 → EReal} {a : EReal} (hp : ∀ e, IsReal (p e)) (hx : ∀ d, IsReal (x d))
    (hdn : ∀ e n d, IsReal (dn e n d)) (hup : ∀ e d n, IsReal (up e d n)) (ha : IsReal a) (d : Fin 768) :
    expertsFused p x dn up a d = experts p x dn up a d := by
  choose p' hp using hp
  choose x' hx using hx
  choose dn' hdn using hdn
  choose up' hup using hup
  obtain ⟨a', rfl⟩ := ha
  obtain ⟨f, hf⟩ := erf_real
  have hone : ∀ r : ℝ, (1 : EReal) + (r : EReal) = ((1 + r : ℝ) : EReal) := fun r => rfl
  have hite : ∀ (e : Fin 8) (j : Fin 1536), (if e = ownerOf j then (1 : EReal) else 0)
      = ((if e = ownerOf j then 1 else 0 : ℝ) : EReal) := fun e j => by split <;> rfl
  unfold expertsFused experts
  simp only [neg_mul, EReal.neg_mul, Ideal.erfc_neg, half_eq, two_eq, Ideal.sqrt_coe, if_neg (show ¬ ((1 / 2 : ℝ) < 0) by norm_num),
    if_neg (show ¬ ((2 : ℝ) < 0) by norm_num), hp, hx, hdn, hup, hite, ← EReal.coe_mul, ← coe_sum, hf, hone]
  congr 1
  have hs : √(1 / 2 : ℝ) * √(2 : ℝ) = 1 := by
    rw [← Real.sqrt_mul (by norm_num)]; norm_num
  simp only [mul_ite, mul_one, mul_zero, Finset.sum_ite_eq', Finset.sum_ite_eq, Finset.mem_univ, if_true]
  rw [sum_units (fun e n => (∑ d', x' d' * (dn' e n d' * √(1 / 2))) * (1 + f (∑ d', x' d' * (dn' e n d' * √(1 / 2)))) * p' e *
    (up' e d n * (a' * (1 / 2 * √2)))), Finset.mul_sum]
  refine Finset.sum_congr rfl fun e _ => ?_
  rw [Finset.mul_sum, Finset.mul_sum]
  refine Finset.sum_congr rfl fun n _ => ?_
  have hsum : ∑ d', x' d' * (dn' e n d' * √(1 / 2)) = (∑ d', x' d' * dn' e n d') * √(1 / 2) := by
    rw [Finset.sum_mul]; exact Finset.sum_congr rfl fun _ _ => by ring
  rw [hsum]
  generalize (∑ d', x' d' * dn' e n d') = h
  generalize f (h * √(1 / 2)) = u
  calc h * √(1 / 2) * (1 + u) * p' e * (up' e d n * (a' * (1 / 2 * √2)))
      = (√(1 / 2) * √2) * (a' * (p' e * (up' e d n * (1 / 2 * h * (1 + u))))) := by ring
    _ = _ := by rw [hs, one_mul]

/-- How far two columns of a projection are from orthonormal. -/
def gramErr (q : Fin 768 → Fin 128 → EReal) (a b : Fin 128) : EReal := ∑ d, q d a * q d b - (if a = b then 1 else 0)

/-- The orthogonality loss of two projections. -/
def orthoLoss (q p : Fin 768 → Fin 128 → EReal) : EReal :=
  Ideal.ofBits .f32 981668463#32 *
    (∑ a, ∑ b, gramErr q a b * gramErr q a b + ∑ a, ∑ b, gramErr p a b * gramErr p a b)

/-- The test for equality of two small numbers, made on their words. -/
theorem eqBit {n : ℕ} (hn : n ≤ 4096) (a b : Fin n) :
    IntOp.cmpi .eq (BitVec.ofNat 32 a.val) (BitVec.ofNat 32 b.val) = if a = b then 1#1 else 0#1 := by
  have ha := a.isLt
  have hb := b.isLt
  by_cases h : a = b
  · subst h
    simp [IntOp.cmpi]
  · have hne : BitVec.ofNat 32 a.val ≠ BitVec.ofNat 32 b.val := fun e => h <| Fin.ext <| by
      have e' := congrArg BitVec.toNat e
      rw [BitVec.toNat_ofNat, BitVec.toNat_ofNat, Nat.mod_eq_of_lt (by omega), Nat.mod_eq_of_lt (by omega)] at e'
      exact e'
    rw [if_neg h]
    show BitVec.ofBool (_ == _) = _
    rw [beq_eq_false_iff_ne.mpr hne]
    rfl

end Cert.Hand
end
-- ==== Proof.Payloads.lean ====
module

public import proofs.«01_k».proof.Proof.BodyRun
public import proofs.«01_k».proof.Proof.Spec
public import Idealize.ShloMosaic.Lib.Pointwise
public import Idealize.ShloMosaic.Lib.WordArith

/-!
The kernel's stored values, read at an index and named by the functions of a row.
-/

@[expose] public section
set_option maxRecDepth 16384
noncomputable section
namespace Cert.Hand
open Idealize.ShloMosaic Idealize.ShloMosaic.TcCoe
open Cert.KernelIdeal Cert.KernelIdeal.Gen Cert.KernelIdeal.Hand

section Router
variable (x : Vec Ideal S1024x768 .f32) (q : Vec Ideal S768x128 .f32) (k : Vec Ideal S8x128 .f32) (g : Vec Ideal S1x128 .f32)
  (b : Vec Ideal S1x8 .f32)

/-- The kernel's logits are the row's. -/
theorem logits_apply (i : Fin 1024) (e : Fin 8) : k0_pay8 x q k g b (ix2 i e)
    = logit (fun d => x (ix2 i d)) (fun d r => q (ix2 d r)) (fun e r => k (ix2 e r)) (fun r => g (ix2 0 r))
      (fun e => b (ix2 0 e)) e := by
  pointwise [k0_pay8, k0_pay6]
  rfl

/-- The largest logit of a row. -/
theorem topLogit_apply (i : Fin 1024) : k0_pay9 x q k g b (ix2 i 0) = top8 (fun e => k0_pay8 x q k g b (ix2 i e)) := by
  pointwise [k0_pay9]
  rfl

/-- The kernel's probabilities are the row's. -/
theorem probs_apply (i : Fin 1024) (e : Fin 8) : probsOf x q k g b (ix2 i e)
    = prob (fun d => x (ix2 i d)) (fun d r => q (ix2 d r)) (fun e r => k (ix2 e r)) (fun r => g (ix2 0 r))
      (fun e => b (ix2 0 e)) e := by
  have h : probsOf x q k g b (ix2 i e) = softmax (fun e => k0_pay8 x q k g b (ix2 i e)) e := by
    unfold probsOf
    pointwise [k0_pay10]
    rw [topLogit_apply]
    rfl
  rw [h]
  exact congrArg (fun l => softmax l e) (funext fun e => logits_apply x q k g b i e)

end Router

/-- The kernel's test that a row of the flat array is not a batch's first, on the row's number. -/
def keepBit (w : BitVec 32) : BitVec 1 :=
  let d : BitVec 32 := Scalar.select (IntOp.cmpi .eq 2048#32 0#32) 1#32 2048#32
  let r : BitVec 32 := IntOp.remsi .vector w d
  IntOp.andi (IntOp.cmpi .ne (Scalar.select (IntOp.andi (IntOp.xori (IntOp.cmpi .slt r 0#32) (IntOp.cmpi .slt d 0#32))
    (IntOp.cmpi .ne r 0#32)) (IntOp.addi r d) r) 0#32) (IntOp.cmpi .slt w 8192#32)

/-- The test is zero exactly on the first row of a batch. -/
theorem keepBit_eq : ∀ n : Fin 8192, keepBit (BitVec.ofNat 32 n.val) = if n.val % 2048 = 0 then 0#1 else 1#1 := by
  decide +kernel

/-- The kernel's row mask at a row of tile `n`. -/
theorem keep_apply (n : Fin 8) (i : Fin 1024) :
    k0_pay1 (k0_pay12 (BitVec.ofNat 32 n.val)) (k0_pay13 (BitVec.ofNat 32 n.val)) (k0_pay14 (BitVec.ofNat 32 n.val))
      (k0_pay15 (BitVec.ofNat 32 n.val)) (ix2 i 0) = if (n.val * 1024 + i.val) % 2048 = 0 then 0#1 else 1#1 := by
  have hn := n.isLt
  have hi := i.isLt
  rw [← keepBit_eq ⟨n.val * 1024 + i.val, by omega⟩]
  have hw : IntOp.addi (IntOp.muli (BitVec.ofNat 32 n.val) 1024#32) (BitVec.ofNat 32 i.val)
      = BitVec.ofNat 32 (n.val * 1024 + i.val) := by
    rw [BitVec.ofNat_add, BitVec.ofNat_mul]; rfl
  pointwise [k0_pay1, k0_pay12, k0_pay13, k0_pay14, k0_pay15]
  rw [← hw]
  rfl

/-- The kernel's expert sum at an index, from its logits and the fused weights. -/
theorem experts_apply (x : Vec Ideal S1024x768 .f32) (q : Vec Ideal S768x128 .f32) (k : Vec Ideal S8x128 .f32)
    (g : Vec Ideal S1x128 .f32) (b : Vec Ideal S1x8 .f32) (wd : Vec Ideal S768x1536 .bf16) (ex : Vec Ideal S8x1536 .bf16)
    (wu : Vec Ideal S1536x768 .bf16) (i : Fin 1024) (d : Fin 768) :
    k0_pay11 (k0_pay7 x) (k0_pay8 x q k g b) (k0_pay9 x q k g b) wd ex wu (ix2 i d)
      = ∑ j, ((∑ d', x (ix2 i d') * wd (ix2 d' j)) * (1 + Ideal.erf (∑ d', x (ix2 i d') * wd (ix2 d' j)))
          * ∑ e, probsOf x q k g b (ix2 i e) * ex (ix2 e j)) * wu (ix2 j d) := by
  unfold probsOf
  pointwise [k0_pay11, k0_pay7, k0_pay6]
  rfl

/-- The tile the kernel writes at point `n`: its rows as they came, plus the expert sum except on a batch's first row. -/
theorem tile_apply (n : grid0.Coords) (x : Vec Ideal S1024x768 .f32) (q : Vec Ideal S768x128 .f32) (k : Vec Ideal S8x128 .f32)
    (g : Vec Ideal S1x128 .f32) (b : Vec Ideal S1x8 .f32) (wd : Vec Ideal S768x1536 .bf16) (wu : Vec Ideal S1536x768 .bf16)
    (ex : Vec Ideal S8x1536 .bf16) (i : Fin 1024) (d : Fin 768) :
    tileOut n x q k g b wd wu ex (ix2 i d) = if ((n 0).val * 1024 + i.val) % 2048 = 0 then x (ix2 i d) else
      x (ix2 i d) + ∑ j, ((∑ d', x (ix2 i d') * wd (ix2 d' j)) * (1 + Ideal.erf (∑ d', x (ix2 i d') * wd (ix2 d' j)))
          * ∑ e, probsOf x q k g b (ix2 i e) * ex (ix2 e j)) * wu (ix2 j d) := by
  rw [← experts_apply]
  unfold tileOut
  have hk := keep_apply (n 0) i
  pointwise [k0_pay2]
  rw [hk]
  pointwise [k0_pay6]
  split <;> rfl

/-- The tile's entropy: over the rows that are not a batch's first, added to what the cell held. -/
theorem entropy_apply (n : grid0.Coords) (p : FVec Ideal S1024x8 .f32) (v : EReal) :
    k0_pay4 p (k0_pay12 (BitVec.ofNat 32 (n 0).val)) (k0_pay13 (BitVec.ofNat 32 (n 0).val))
      (k0_pay14 (BitVec.ofNat 32 (n 0).val)) (k0_pay15 (BitVec.ofNat 32 (n 0).val)) v
      = v + ∑ i : Fin 1024, if ((n 0).val * 1024 + i.val) % 2048 = 0 then 0 else rowEntropy (fun e => p (ix2 i e)) := by
  pointwise [k0_pay4]
  refine congrArg (fun s : EReal => v + s) (Finset.sum_congr (M := EReal) rfl fun i _ => ?_)
  rw [Fin.sum_univ_one, keep_apply (n 0) i]
  split
  · rfl
  · show ∑ e, (0 - p (ix2 i e) : EReal) * Ideal.log (max (Ideal.ofBits .f32 814313567#32) (p (ix2 i e)))
      = ∑ e, -(p (ix2 i e) * Ideal.log (max (Ideal.ofBits .f32 814313567#32) (p (ix2 i e))))
    refine Finset.sum_congr rfl fun e _ => ?_
    rw [zero_sub, EReal.neg_mul]

/-- The identity matrix's entry as the kernel makes it. -/
theorem eye_apply (a b : Fin 128) : Scalar.select (IntOp.cmpi .eq (BitVec.ofNat 32 a.val) (BitVec.ofNat 32 b.val)) (1 : EReal) 0
    = if a = b then 1 else 0 := by
  rw [eqBit (by decide) a b]
  split <;> rfl

/-- The orthogonality loss the kernel computes from the two projections. -/
theorem ortho_apply (q p : Vec Ideal S768x128 .f32) :
    k0_pay3 q q p p = orthoLoss (fun d r => q (ix2 d r)) (fun d r => p (ix2 d r)) := by
  pointwise [k0_pay3]
  simp only [eye_apply]
  rfl

/-- The last point divides the sum of entropies by the number of rows counted. -/
theorem mean_apply (v : EReal) : k0_pay5 (F := Ideal) v = Ideal.div v (Ideal.ofBits .f32 1174396928#32) := by
  pointwise [k0_pay5]

end Cert.Hand
end
-- ==== Proof.Blocks.lean ====
module

public import proofs.«01_k».proof.Proof.RegionRun
public import proofs.«01_k».proof.Proof.Spec
public import Idealize.ShloMosaic.Lib.Pointwise
public import Idealize.ShloMosaic.Lib.Claim
public import Idealize.ShloMosaic.Lib.StableHlo.RunRead

/-!
The kernel's operands, block by block, in terms of the program's arguments: the tile of rows at a grid point, and the
whole arrays that every point reads.
-/

@[expose] public section
set_option maxRecDepth 16384
noncomputable section
namespace Cert.Hand
open Idealize.ShloMosaic Idealize.ShloMosaic.TcCoe
open Cert.KernelIdeal Cert.KernelIdeal.Gen Cert.KernelIdeal.Hand

variable (m : (ℓ : Loc nD τ sig) → Buf (Elt Ideal) ℓ) (c : Dev nD)

/-- The tokens. -/
def argX : S4x2048x768.Idx → EReal := m (c.tc.loc main_arg0)
/-- The first projection. -/
def argQ : S768x128.Idx → EReal := m (c.tc.loc main_arg1)
/-- The second projection. -/
def argP : S768x128.Idx → EReal := m (c.tc.loc main_arg2)
/-- Gamma. -/
def argG : S128.Idx → EReal := m (c.tc.loc main_arg3)
/-- The experts' masks. -/
def argK : S8x128.Idx → EReal := m (c.tc.loc main_arg4)
/-- The router's bias. -/
def argB : S8.Idx → EReal := m (c.tc.loc main_arg5)
/-- The experts' first weights. -/
def argDn : S8x192x768.Idx → EReal := m (c.tc.loc main_arg6)
/-- The experts' second weights. -/
def argUp : S8x768x192.Idx → EReal := m (c.tc.loc main_arg7)
/-- Alpha. -/
def argA : S_.Idx → EReal := m (c.tc.loc main_arg8)

/-- The tokens as one array of rows. -/
theorem rows_entry (n : Fin 8192) (d : Fin 768) : (V m c main_v0 : S8192x768.Idx → EReal) (ix2 n d)
    = argX m c (ix3 ⟨n.val / 2048, by omega⟩ ⟨n.val % 2048, Nat.mod_lt _ (by decide)⟩ d) := by
  simp only [V, V0, hostOps0, hostOps0_1, hostOps0_2, List.flatten_cons, List.flatten_nil, List.append_nil, List.cons_append,
    List.nil_append]
  after_reads_simp
  pointwise
  rfl

/-- Gamma as one row. -/
theorem gamma_entry (i : Fin 1) (r : Fin 128) : (V m c main_v24 : S1x128.Idx → EReal) (ix2 i r) = argG m c (ix1 r) := by
  simp only [V, V0, hostOps0, hostOps0_1, hostOps0_2, List.flatten_cons, List.flatten_nil, List.append_nil, List.cons_append,
    List.nil_append]
  after_reads_simp
  pointwise
  rfl

/-- The bias as one row. -/
theorem bias_entry (i : Fin 1) (e : Fin 8) : (V m c main_v25 : S1x8.Idx → EReal) (ix2 i e) = argB m c (ix1 e) := by
  simp only [V, V0, hostOps0, hostOps0_1, hostOps0_2, List.flatten_cons, List.flatten_nil, List.append_nil, List.cons_append,
    List.nil_append]
  after_reads_simp
  pointwise
  rfl

/-- The experts' first weights side by side, each scaled by the factor of the GELU's argument. -/
theorem down_entry (d : Fin 768) (j : Fin 1536) : (V m c main_v7 : S768x1536.Idx → EReal) (ix2 d j)
    = argDn m c (ix3 (ownerOf j) (unitOf j) d) * Ideal.sqrt (Ideal.ofBits .f32 1056964608#32) := by
  simp only [V, V0, hostOps0, hostOps0_1, hostOps0_2, List.flatten_cons, List.flatten_nil, List.append_nil, List.cons_append,
    List.nil_append]
  after_reads_simp
  pointwise
  rfl

/-- The experts' second weights side by side, each scaled by alpha and the GELU's other factors. -/
theorem up_entry (j : Fin 1536) (d : Fin 768) : (V m c main_v14 : S1536x768.Idx → EReal) (ix2 j d)
    = argUp m c (ix3 (ownerOf j) d (unitOf j)) *
      (argA m c ix0 * (Ideal.ofBits .f32 1056964608#32 * Ideal.sqrt (Ideal.ofBits .f32 1073741824#32))) := by
  simp only [V, V0, hostOps0, hostOps0_1, hostOps0_2, List.flatten_cons, List.flatten_nil, List.append_nil, List.cons_append,
    List.nil_append]
  after_reads_simp
  pointwise
  rfl

/-- The word of the expert that owns a hidden unit, as the program divides and rounds down. -/
def ownerWord (w : BitVec 32) : BitVec 32 :=
  Scalar.select
    (IntOp.andi
      (IntOp.cmpi .ne (if w = 0 then (0 : BitVec 32) else if w.msb = true then -1 else 1)
        (if 192#32 = 0 then (0 : BitVec 32) else if (192#32).msb = true then -1 else 1))
      (IntOp.cmpi .ne (IntOp.remsi .host w 192#32) 0#32))
    (IntOp.subi (IntOp.divsi .host w 192#32) 1#32) (IntOp.divsi .host w 192#32)

/-- It is the unit's number divided by the units of one expert. -/
theorem ownerWord_eq : ∀ j : Fin 1536, ownerWord (BitVec.ofNat 32 j.val) = BitVec.ofNat 32 (ownerOf j).val := by
  decide +kernel

/-- The table that says which expert owns which hidden unit. -/
theorem owner_entry (e : Fin 8) (j : Fin 1536) : (V m c main_v23 : S8x1536.Idx → EReal) (ix2 e j)
    = if e = ownerOf j then (1 : EReal) else 0 := by
  simp only [V, V0, hostOps0, hostOps0_1, hostOps0_2, List.flatten_cons, List.flatten_nil, List.append_nil, List.cons_append,
    List.nil_append]
  after_reads_simp
  simp only [StableHlo.TRef.ofBuf, StableHlo.TRef.toBuf, StableHlo.TRef.of, cast_eq, eqRec_eq_cast, id_eq]
  pointwise
  show (FloatOps.uitofp (F := Ideal) FTy.bf16 (IntOp.cmpi .eq (BitVec.ofNat 32 e.val) (ownerWord (BitVec.ofNat 32 j.val))) : EReal) = _
  rw [ownerWord_eq, eqBit (by decide)]
  split <;> simp [FloatOps.uitofp]

/-- Each input window's block index at a point: the tile of rows moves with the point, the others stay. -/
theorem win_index : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] := by decide +kernel

variable (t : Fin cfg0.N)

/-- The number of a row of the tile at point `t`. -/
def rowNo (i : Fin 1024) : Fin 8192 :=
  ⟨t.val * 1024 + i.val, by have := Nat.lt_of_lt_of_eq t.isLt N_0; omega⟩

/-- The block of window 0 at point `t` is the point's tile of rows. -/
theorem blk_x (i : Fin 1024) (d : Fin 768) : (iblk m c 0 t : S1024x768.Idx → EReal) (ix2 i d)
    = argX m c (ix3 ⟨(rowNo t i).val / 2048, by omega⟩ ⟨(rowNo t i).val % 2048, Nat.mod_lt _ (by decide)⟩ d) := by
  rw [← rows_entry]
  blk_ext [iblk, rowNo, (win_index t).1]

/-- The block of window 1 is the first projection. -/
theorem blk_q (d : Fin 768) (r : Fin 128) : (iblk m c 1 t : S768x128.Idx → EReal) (ix2 d r) = argQ m c (ix2 d r) := by
  rw [argQ, ← V_main_arg1 m c]
  blk_ext [iblk, (win_index t).2.1]

/-- The block of window 2 is the second projection. -/
theorem blk_p (d : Fin 768) (r : Fin 128) : (iblk m c 2 t : S768x128.Idx → EReal) (ix2 d r) = argP m c (ix2 d r) := by
  rw [argP, ← V_main_arg2 m c]
  blk_ext [iblk, (win_index t).2.2.1]

/-- The block of window 3 is gamma. -/
theorem blk_g (r : Fin 128) : (iblk m c 3 t : S1x128.Idx → EReal) (ix2 0 r) = argG m c (ix1 r) := by
  rw [← gamma_entry m c 0]
  blk_ext [iblk, (win_index t).2.2.2.1]

/-- The block of window 4 is the experts' masks. -/
theorem blk_k (e : Fin 8) (r : Fin 128) : (iblk m c 4 t : S8x128.Idx → EReal) (ix2 e r) = argK m c (ix2 e r) := by
  rw [argK, ← V_main_arg4 m c]
  blk_ext [iblk, (win_index t).2.2.2.2.1]

/-- The block of window 5 is the bias. -/
theorem blk_b (e : Fin 8) : (iblk m c 5 t : S1x8.Idx → EReal) (ix2 0 e) = argB m c (ix1 e) := by
  rw [← bias_entry m c 0]
  blk_ext [iblk, (win_index t).2.2.2.2.2.1]

/-- The block of window 6 is the fused first weights. -/
theorem blk_wd (d : Fin 768) (j : Fin 1536) : (iblk m c 6 t : S768x1536.Idx → EReal) (ix2 d j)
    = argDn m c (ix3 (ownerOf j) (unitOf j) d) * Ideal.sqrt (Ideal.ofBits .f32 1056964608#32) := by
  rw [← down_entry]
  blk_ext [iblk, (win_index t).2.2.2.2.2.2.1]

/-- The block of window 7 is the fused second weights. -/
theorem blk_wu (j : Fin 1536) (d : Fin 768) : (iblk m c 7 t : S1536x768.Idx → EReal) (ix2 j d)
    = argUp m c (ix3 (ownerOf j) d (unitOf j)) *
      (argA m c ix0 * (Ideal.ofBits .f32 1056964608#32 * Ideal.sqrt (Ideal.ofBits .f32 1073741824#32))) := by
  rw [← up_entry]
  blk_ext [iblk, (win_index t).2.2.2.2.2.2.2.1]

/-- The block of window 8 is the table of owners. -/
theorem blk_ex (e : Fin 8) (j : Fin 1536) : (iblk m c 8 t : S8x1536.Idx → EReal) (ix2 e j)
    = if e = ownerOf j then (1 : EReal) else 0 := by
  rw [← owner_entry m c]
  blk_ext [iblk, (win_index t).2.2.2.2.2.2.2.2]

end Cert.Hand
end
-- ==== Proof.Reference.lean ====
module

public import proofs.«01_k».proof.Proof.Spec
public import proofs.«01_k».proof.Proof.Gen.ReferenceIdeal.Read
public import Idealize.ShloMosaic.Lib.Pointwise

/-!
The reference's results, read at an index and named by the functions of a row.
-/

@[expose] public section
set_option maxRecDepth 16384
noncomputable section
namespace Cert.Hand
open Idealize.ShloMosaic Idealize.ShloMosaic.TcCoe

/-- The place in its batch of the token after the first `t`. -/
def later (t : Fin 2047) : Fin 2048 := ⟨1 + t.val, by omega⟩

section
variable (x0 : (⟨3, ![4, 2048, 768]⟩ : Shape).Idx → EReal) (x1 : (⟨2, ![768, 128]⟩ : Shape).Idx → EReal)
  (x3 : (⟨1, ![128]⟩ : Shape).Idx → EReal) (x4 : (⟨2, ![8, 128]⟩ : Shape).Idx → EReal) (x5 : (⟨1, ![8]⟩ : Shape).Idx → EReal)
  (x6 : (⟨3, ![8, 192, 768]⟩ : Shape).Idx → EReal) (x7 : (⟨3, ![8, 768, 192]⟩ : Shape).Idx → EReal)
  (x8 : (⟨0, ![]⟩ : Shape).Idx → EReal)

/-- The router's probabilities of the token at place `s` of batch `b`. -/
def probAt (b : Fin 4) (s : Fin 2048) : Fin 8 → EReal :=
  prob (fun d => x0 (ix3 b s d)) (fun d r => x1 (ix2 d r)) (fun e r => x4 (ix2 e r)) (fun r => x3 (ix1 r)) (fun e => x5 (ix1 e))

/-- The experts' sum at the token at place `s` of batch `b`. -/
def expertsAt (b : Fin 4) (s : Fin 2048) : Fin 768 → EReal :=
  experts (probAt x0 x1 x3 x4 x5 b s) (fun d => x0 (ix3 b s d)) (fun e n d => x6 (ix3 e n d)) (fun e d n => x7 (ix3 e d n)) (x8 ix0)

open Cert.ReferenceIdeal Cert.ReferenceIdeal.Read

/-- The reference's shares of energy. -/
theorem ref_energy (b : Fin 4) (t : Fin 2047) (r : Fin 128) : (val_main_v9 (F := Ideal) x0 x1 : S4x2047x128.Idx → EReal) (ix3 b t r)
    = energy (fun d => x0 (ix3 b (later t) d)) (fun d r => x1 (ix2 d r)) r := by
  pointwise [val_main_v9, val_main_v8, val_main_v7, val_main_v6, val_main_v5, val_main_v4, val_main_v3, val_main_v2,
    val_main_v1, val_main_cst, val_main_cst_0]
  rfl

/-- The reference's softmax of the masks over the experts. -/
theorem ref_mask (e : Fin 8) (r : Fin 128) : (val_main_v20 (F := Ideal) x4 : S8x128.Idx → EReal) (ix2 e r)
    = softmax (fun e' => x4 (ix2 e' r)) e := by
  pointwise [val_main_v20, val_main_v19, val_main_v18, val_main_v17, val_main_v16, val_main_v15, val_main_v14, val_main_v13,
    val_main_v12, val_main_v11, val_main_v10, val_main_cst_1, val_main_cst_2, val_main_cst_3]
  rfl

/-- The reference's logits. -/
theorem ref_logit (b : Fin 4) (t : Fin 2047) (e : Fin 8) :
    (val_main_v29 (F := Ideal) x0 x1 x3 x4 x5 : S4x2047x8.Idx → EReal) (ix3 b t e)
    = logit (fun d => x0 (ix3 b (later t) d)) (fun d r => x1 (ix2 d r)) (fun e r => x4 (ix2 e r)) (fun r => x3 (ix1 r))
      (fun e => x5 (ix1 e)) e := by
  pointwise [val_main_v29, val_main_v28, val_main_v27, val_main_v26, val_main_v25, val_main_v24, val_main_v23, val_main_v22,
    val_main_v21, val_main_cst_4]
  simp only [ref_energy, ref_mask, mul_comm (x3 _)]
  rfl

/-- The reference's probabilities. -/
theorem ref_prob (b : Fin 4) (t : Fin 2047) (e : Fin 8) :
    (val_main_v40 (F := Ideal) x0 x1 x3 x4 x5 : S4x2047x8.Idx → EReal) (ix3 b t e) = probAt x0 x1 x3 x4 x5 b (later t) e := by
  pointwise [val_main_v40, val_main_v39, val_main_v38, val_main_v37, val_main_v36, val_main_v35, val_main_v34, val_main_v33,
    val_main_v32, val_main_v31, val_main_v30, val_main_cst_5, val_main_cst_6, val_main_cst_7]
  simp only [ref_logit]
  rfl

/-- The reference's experts, scaled and added to the token. -/
theorem ref_token (b : Fin 4) (t : Fin 2047) (d : Fin 768) :
    (val_main_v55 (F := Ideal) x0 x1 x3 x4 x5 x6 x7 x8 : S4x2047x768.Idx → EReal) (ix3 b t d)
    = x0 (ix3 b (later t) d) + expertsAt x0 x1 x3 x4 x5 x6 x7 x8 b (later t) d := by
  pointwise [val_main_v55, val_main_v54, val_main_v53, val_main_v52, val_main_v51, val_main_v50, val_main_v49, val_main_v48,
    val_main_v47, val_main_v46, val_main_v45, val_main_v44, val_main_v43, val_main_v42, val_main_v41, val_main_v1,
    val_main_cst_8, val_main_cst_9]
  simp only [ref_prob]
  rfl

/-- The reference's first result: the first token of a batch as it came, every other with the experts added. -/
theorem ref_out (b : Fin 4) (s : Fin 2048) (d : Fin 768) :
    (val_main_v56 (F := Ideal) x0 x1 x3 x4 x5 x6 x7 x8 : S4x2048x768.Idx → EReal) (ix3 b s d)
    = if s.val = 0 then x0 (ix3 b s d) else x0 (ix3 b s d) + expertsAt x0 x1 x3 x4 x5 x6 x7 x8 b s d := by
  pointwise [val_main_v56, val_main_v0]
  by_cases h : s.val = 0
  · rw [dif_pos (by omega), if_pos h]
  · have hs : later ⟨s.val - 1, by omega⟩ = s := Fin.ext (show 1 + (s.val - 1) = s.val by omega)
    rw [dif_neg (by omega), if_neg h, ref_token, hs]

/-- The identity matrix's entry as the reference makes it. -/
theorem ref_eye (a b : Fin 128) :
    FloatOps.uitofp (F := Ideal) FTy.f32 (IntOp.cmpi .eq (IntOp.addi (BitVec.ofNat 32 a.val) 0#32) (BitVec.ofNat 32 b.val))
      = if a = b then (1 : EReal) else 0 := by
  have h0 : IntOp.addi (BitVec.ofNat 32 a.val) 0#32 = BitVec.ofNat 32 a.val := BitVec.add_zero _
  rw [h0, eqBit (by decide)]
  split <;> simp [FloatOps.uitofp]

/-- The reference's second result is the orthogonality loss. -/
theorem ref_ortho (x2 : (⟨2, ![768, 128]⟩ : Shape).Idx → EReal) (j : S_.Idx) :
    (val_main_v74 (F := Ideal) x1 x2 : S_.Idx → EReal) j
    = orthoLoss (fun d r => x1 (ix2 d r)) (fun d r => x2 (ix2 d r)) := by
  pointwise [val_main_v74, val_main_v73, val_main_v72, val_main_v71, val_main_v70, val_main_v69, val_main_v68, val_main_v67,
    val_main_v66, val_main_v65, val_main_v64, val_main_v63, val_main_v62, val_main_v61, val_main_v60, val_main_v59, val_main_v58,
    val_main_v57, val_main_cst_10, val_main_cst_11, val_main_cst_12, val_main_c]
  simp only [ref_eye]
  rfl

/-- The reference's third result is the mean entropy of the tokens routed. -/
theorem ref_entropy (j : S_.Idx) : (val_main_v81 (F := Ideal) x0 x1 x3 x4 x5 : S_.Idx → EReal) j
    = Ideal.div (∑ b, ∑ t, rowEntropy (probAt x0 x1 x3 x4 x5 b (later t))) (Ideal.ofBits .f32 1174396928#32) := by
  pointwise [val_main_v81, val_main_v80, val_main_v79, val_main_v78, val_main_v77, val_main_v76, val_main_v75,
    val_main_call0_v1, val_main_call0_v0, val_main_cst_13, val_main_cst_14, val_main_cst_15, val_main_cst_16]
  simp only [ref_prob]
  rfl
end

end Cert.Hand
end
-- ==== Proof.Results.lean ====
module

public import proofs.«01_k».proof.Proof.Payloads
public import proofs.«01_k».proof.Proof.Blocks
public import proofs.«01_k».proof.Proof.Reference

/-!
The kernel's three results after the whole launch, by the functions that name the reference's.
-/

@[expose] public section
set_option maxRecDepth 16384
noncomputable section
namespace Cert.Hand
open Idealize.ShloMosaic Idealize.ShloMosaic.TcCoe
open Cert.KernelIdeal Cert.KernelIdeal.Gen Cert.KernelIdeal.Hand

variable (m : (ℓ : Loc nD τ sig) → Buf (Elt Ideal) ℓ) (c : Dev nD)

/-- The batch of a row. -/
def batchOf (n : Fin 8192) : Fin 4 := ⟨n.val / 2048, by omega⟩
/-- The place of a row in its batch. -/
def placeOf (n : Fin 8192) : Fin 2048 := ⟨n.val % 2048, Nat.mod_lt _ (by decide)⟩

/-- The grid has one axis, so a point's coordinate is its number. -/
theorem coord_eq : ∀ t : Fin cfg0.N, (grid0.coords t 0).val = t.val := by decide +kernel

/-- The router's probabilities of a row of the tile at point `t`. -/
theorem tile_probs (t : Fin cfg0.N) (i : Fin 1024) (e : Fin 8) :
    probsOf (iblk m c 0 t) (iblk m c 1 t) (iblk m c 4 t) (iblk m c 3 t) (iblk m c 5 t) (ix2 i e)
    = probAt (argX m c) (argQ m c) (argG m c) (argK m c) (argB m c) (batchOf (rowNo t i)) (placeOf (rowNo t i)) e := by
  rw [probs_apply]
  simp only [blk_x, blk_q, blk_k, blk_g, blk_b]
  rfl

/-- What the first result is to hold at one row and column. -/
def rowOut (n : Fin 8192) (d : Fin 768) : EReal :=
  if (placeOf n).val = 0 then argX m c (ix3 (batchOf n) (placeOf n) d)
  else argX m c (ix3 (batchOf n) (placeOf n) d) + expertsAt (argX m c) (argQ m c) (argG m c) (argK m c) (argB m c) (argDn m c)
    (argUp m c) (argA m c) (batchOf n) (placeOf n) d

section
variable (hX : ∀ i, IsReal (argX m c i)) (hG : ∀ i, IsReal (argG m c i)) (hK : ∀ i, IsReal (argK m c i))
  (hB : ∀ i, IsReal (argB m c i)) (hD : ∀ i, IsReal (argDn m c i)) (hU : ∀ i, IsReal (argUp m c i)) (hA : ∀ i, IsReal (argA m c i))
include hX hG hK hB hD hU hA

/-- The tile at point `t` holds its rows' results. -/
theorem tile_eq (t : Fin cfg0.N) (i : Fin 1024) (d : Fin 768) :
    (tileAt m c t : S1024x768.Idx → EReal) (ix2 i d) = rowOut m c (rowNo t i) d := by
  unfold tileAt
  rw [tile_apply, coord_eq]
  simp only [blk_x, blk_wd, blk_wu, blk_ex, tile_probs]
  unfold rowOut expertsAt
  have hp : ∀ e, IsReal (probAt (argX m c) (argQ m c) (argG m c) (argK m c) (argB m c) (batchOf (rowNo t i)) (placeOf (rowNo t i)) e) :=
    IsReal.prob _ _ (fun e r => hK _) (fun r => hG _) (fun e => hB _)
  rw [← expertsFused_eq hp (fun d => hX _) (fun e n d => hD _) (fun e d n => hU _) (hA _)]
  rfl

/-- The same at an index given whole. -/
theorem tile_eq' (t : Fin cfg0.N) (y : S1024x768.Idx) :
    (tileAt m c t : S1024x768.Idx → EReal) y = rowOut m c (rowNo t (y 0)) (y 1) := by
  obtain ⟨i, d, rfl⟩ : ∃ i d, y = ix2 i d := ⟨y 0, y 1, Shape.idx_ext₂ rfl rfl⟩
  exact tile_eq m c hX hG hK hB hD hU hA t i d

/-- The first result's array after the region. -/
theorem array_out : (dats m 0 c).arrAt 10 grid0.N
    = ((fun y => rowOut m c (y 0) (y 1) : S8192x768.Idx → EReal) : Buf (Elt Ideal) (View.loc c.tc (cfg0.win 10).arr.view)) := by
  have hidx : ∀ t : Fin grid0.N, win0_10.index t = ![t.val, 0] := by decide +kernel
  refine (dats m 0 c).arrAt_eq_of_covers 10 _ (by decide +kernel) fun t hf y => ?_
  blk_simp [hidx]
  rw [after_10]
  refine (tile_eq' m c hX hG hK hB hD hU hA t y).trans ?_
  refine congrArg₂ (rowOut m c) (Fin.ext ?_) (Fin.ext ?_)
  · blk_simp [hidx, rowNo]
  · blk_simp [hidx]
end

/-- The second result's array after the region. -/
theorem array_ortho : (dats m 0 c).arrAt 11 grid0.N
    = ((fun _ => orthoLoss (fun d r => argQ m c (ix2 d r)) (fun d r => argP m c (ix2 d r)) : S1.Idx → EReal) :
      Buf (Elt Ideal) (View.loc c.tc (cfg0.win 11).arr.view)) := by
  refine (dats m 0 c).arrAt_eq_of_after_last 11 (pt 7) (by decide +kernel) _ fun j => ?_
  blk_simp
  rw [after_11]
  show k0_pay3 (iblk m c 1 (pt 0)) (iblk m c 1 (pt 0)) (iblk m c 2 (pt 0)) (iblk m c 2 (pt 0)) = _
  rw [ortho_apply]
  simp only [blk_q, blk_p]

/-- A row's share of the entropy: none for the first row of a batch. -/
def rowShare (n : Fin 8192) : EReal :=
  if (placeOf n).val = 0 then 0
  else rowEntropy (probAt (argX m c) (argQ m c) (argG m c) (argK m c) (argB m c) (batchOf n) (placeOf n))

/-- What a point adds to the entropy's cell. -/
theorem share_step (t : Fin cfg0.N) (v : S1.Idx → EReal) (j : S1.Idx) :
    (entSum (grid0.coords t) (iblk m c 0 t) (iblk m c 1 t) (iblk m c 4 t) (iblk m c 3 t) (iblk m c 5 t) v : S1.Idx → EReal) j
    = (if t.val = 0 then (0 : EReal) else v j) + ∑ i, rowShare m c (rowNo t i) := by
  unfold entSum
  rw [entropy_apply, coord_eq]
  refine congrArg₂ (fun a b : EReal => a + b) ?_ (Finset.sum_congr (M := EReal) rfl fun i _ => ?_)
  · unfold entIn
    by_cases h : t.val = 0
    · rw [if_pos ((atFirst_iff t).mpr h), if_pos h]
      exact Ideal.ofBits_zero _
    · rw [if_neg fun h' => h ((atFirst_iff t).mp h'), if_neg h]
  · simp only [tile_probs]
    rfl

/-- The entropies summed over the tiles up to point `n`. -/
def sharesTo (n : ℕ) : EReal := ∑ k ∈ Finset.range (n + 1), ∑ i, rowShare m c (rowNo (pt k) i)

/-- The third result's cell before the last point. -/
theorem entSeq_eq (j : S1.Idx) : ∀ n : ℕ, n < 7 → (entSeq m c n : S1.Idx → EReal) j = sharesTo m c n
  | 0, _ => by
    unfold entSeq entOut
    rw [if_neg fun h => absurd ((atLast_iff _).mp h) (by decide), share_step, if_pos (by rfl), zero_add]
    simp [sharesTo]
  | n + 1, h => by
    have hv : (pt (n + 1)).val = n + 1 := Nat.mod_eq_of_lt (by omega)
    unfold entSeq entOut
    rw [if_neg fun h' => absurd ((atLast_iff _).mp h') (by omega), share_step, if_neg (by omega), entSeq_eq j n (by omega)]
    exact (Finset.sum_range_succ _ _).symm

/-- The third result's cell after the last point. -/
theorem entSeq_last (j : S1.Idx) :
    (entSeq m c 7 : S1.Idx → EReal) j = Ideal.div (sharesTo m c 7) (Ideal.ofBits .f32 1174396928#32) := by
  unfold entSeq entOut
  rw [if_pos ((atLast_iff _).mpr rfl), mean_apply, share_step, if_neg (by decide), entSeq_eq m c j 6 (by omega)]
  exact congrArg (fun s : EReal => Ideal.div s _) (Finset.sum_range_succ _ _).symm

/-- The rows' shares add up to the routed tokens' entropies. -/
theorem shares_eq : sharesTo m c 7
    = ∑ b, ∑ t, rowEntropy (probAt (argX m c) (argQ m c) (argG m c) (argK m c) (argB m c) b (later t)) := by
  have h1 : sharesTo m c 7 = ∑ n : Fin 8192, rowShare m c n := by
    unfold sharesTo
    rw [Finset.sum_range]
    refine Fin.sum_mul_add_congr fun s k hl => congrArg (rowShare m c) (Fin.ext ?_)
    show s.val % 8 * 1024 + k.val = s.val * 1024 + k.val
    rw [Nat.mod_eq_of_lt s.isLt]
  rw [h1, ← Fin.sum_mul_add_fin 4 2048 (rowShare m c)]
  refine Finset.sum_congr rfl fun b _ => ?_
  rw [Fin.sum_univ_succ]
  have h0 : rowShare m c ⟨b.val * 2048 + (0 : Fin 2048).val, by omega⟩ = 0 :=
    if_pos (show (b.val * 2048 + 0) % 2048 = 0 by omega)
  rw [h0, zero_add]
  refine Finset.sum_congr rfl fun t _ => ?_
  have hb : batchOf ⟨b.val * 2048 + t.succ.val, by omega⟩ = b :=
    Fin.ext (show (b.val * 2048 + (t.val + 1)) / 2048 = b.val by omega)
  have hp : placeOf ⟨b.val * 2048 + t.succ.val, by omega⟩ = later t :=
    Fin.ext (show (b.val * 2048 + (t.val + 1)) % 2048 = 1 + t.val by omega)
  unfold rowShare
  rw [hb, hp, if_neg (show (later t).val ≠ 0 from Nat.ne_of_gt (Nat.lt_add_right _ Nat.one_pos))]

/-- The third result's array after the region. -/
theorem array_entropy : (dats m 0 c).arrAt 12 grid0.N
    = ((fun _ => Ideal.div (∑ b, ∑ t, rowEntropy (probAt (argX m c) (argQ m c) (argG m c) (argK m c) (argB m c) b (later t)))
        (Ideal.ofBits .f32 1174396928#32) : S1.Idx → EReal) : Buf (Elt Ideal) (View.loc c.tc (cfg0.win 12).arr.view)) := by
  refine (dats m 0 c).arrAt_eq_of_after_last 12 (pt 7) (by decide +kernel) _ fun j => ?_
  blk_simp
  rw [after_12]
  exact (entSeq_last m c j).trans (by rw [shares_eq])

/-- No two windows stage the same array. -/
theorem arrays_distinct : Function.Injective (Pipeline.arrRef spec0) := by decide +kernel

/-- What the program returns second. -/
theorem final_ortho (j : S_.Idx) : (Pipeline.afterTail₀ cfgs (dats m) 0 (V0 m) [hostOps1] c main_v29 : S_.Idx → EReal) j
    = orthoLoss (fun d r => argQ m c (ix2 d r)) (fun d r => argP m c (ix2 d r)) := by
  unfold Pipeline.afterTail₀
  simp only [hostOps1, List.flatten_cons, List.flatten_nil, List.append_nil, List.cons_append, List.nil_append]
  after_results_simp
  exact congrFun ((Pipeline.withArrays_arr spec0 arrays_distinct c (V0 m c) (fun w => (dats m 0 c).arrAt w grid0.N) 11).trans (array_ortho m c)) _

/-- What the program returns third. -/
theorem final_entropy (j : S_.Idx) : (Pipeline.afterTail₀ cfgs (dats m) 0 (V0 m) [hostOps1] c main_v30 : S_.Idx → EReal) j
    = Ideal.div (∑ b, ∑ t, rowEntropy (probAt (argX m c) (argQ m c) (argG m c) (argK m c) (argB m c) b (later t)))
      (Ideal.ofBits .f32 1174396928#32) := by
  unfold Pipeline.afterTail₀
  simp only [hostOps1, List.flatten_cons, List.flatten_nil, List.append_nil, List.cons_append, List.nil_append]
  after_results_simp
  exact congrFun ((Pipeline.withArrays_arr spec0 arrays_distinct c (V0 m c) (fun w => (dats m 0 c).arrAt w grid0.N) 12).trans (array_entropy m c)) _

/-- The rows of a batch by place: the array of rows read as batches. -/
theorem unflatten (A : S8192x768.Idx → EReal) (b : Fin 4) (s : Fin 2048) (d : Fin 768) :
    shapeCast S4x2048x768 A shapeCasts_S8192x768_S4x2048x768 (ix3 b s d)
    = A (ix2 ⟨b.val * 2048 + s.val, by omega⟩ d) := by
  pointwise

/-- What the program returns first. -/
theorem final_out (hX : ∀ i, IsReal (argX m c i)) (hG : ∀ i, IsReal (argG m c i)) (hK : ∀ i, IsReal (argK m c i))
    (hB : ∀ i, IsReal (argB m c i)) (hD : ∀ i, IsReal (argDn m c i)) (hU : ∀ i, IsReal (argUp m c i))
    (hA : ∀ i, IsReal (argA m c i)) (b : Fin 4) (s : Fin 2048) (d : Fin 768) :
    (Pipeline.afterTail₀ cfgs (dats m) 0 (V0 m) [hostOps1] c main_v28 : S4x2048x768.Idx → EReal) (ix3 b s d)
    = if s.val = 0 then argX m c (ix3 b s d) else argX m c (ix3 b s d) + expertsAt (argX m c) (argQ m c) (argG m c) (argK m c)
      (argB m c) (argDn m c) (argUp m c) (argA m c) b s d := by
  unfold Pipeline.afterTail₀
  simp only [hostOps1, List.flatten_cons, List.flatten_nil, List.append_nil, List.cons_append, List.nil_append]
  after_results_simp
  refine (unflatten _ b s d).trans ?_
  refine (congrFun ((Pipeline.withArrays_arr spec0 arrays_distinct c (V0 m c) (fun w => (dats m 0 c).arrAt w grid0.N) 10).trans (array_out m c hX hG hK hB hD hU hA)) _).trans ?_
  show rowOut m c ⟨b.val * 2048 + s.val, by omega⟩ d = _
  have hb : batchOf ⟨b.val * 2048 + s.val, by omega⟩ = b := Fin.ext (show (b.val * 2048 + s.val) / 2048 = b.val by omega)
  have hs : placeOf ⟨b.val * 2048 + s.val, by omega⟩ = s := Fin.ext (show (b.val * 2048 + s.val) % 2048 = s.val by omega)
  unfold rowOut
  rw [hb, hs]

end Cert.Hand
end
-- ==== Proof.Finite.lean ====
module

public import proofs.«01_k».proof.Defs
public import proofs.«01_k».proof.Proof.Blocks
public import proofs.«01_k».proof.Proof.Gen.Pre_finite_experts
public import Idealize.ShloMosaic.Lib.ReduceAll

/-!
The precondition read back: every entry of the arguments it names is a real number.
-/

@[expose] public section
set_option maxRecDepth 16384
noncomputable section
namespace Cert.Hand
open Idealize.ShloMosaic Idealize.ShloMosaic.TcCoe
open Cert.Pre_finite_experts Cert.Pre_finite_experts.Facts

/-- A number whose magnitude compares below infinity is real. -/
theorem real_of_below {x : EReal}
    (h : FloatOps.cmpf (F := Ideal) (φ := .f32) .olt (FloatOps.hostAbsf (F := Ideal) (φ := .f32) x) (Ideal.ofBits .f32 0x7F800000#32) = 1#1) :
    IsReal x := by
  have htop : Ideal.ofBits .f32 0x7F800000#32 = ⊤ := by simp [Ideal.ofBits, Ideal.ieee]
  rw [htop] at h
  have hlt : max x (-x) < (⊤ : EReal) := by
    by_contra hn
    have : FloatOps.cmpf (F := Ideal) (φ := .f32) .olt (FloatOps.hostAbsf (F := Ideal) (φ := .f32) x) ⊤ = 0#1 := by
      show BitVec.ofBool (decide (max x (-x) < (⊤ : EReal))) = 0#1
      simp [hn]
    rw [this] at h
    exact absurd h (by decide)
  obtain ⟨h₁, h₂⟩ := max_lt_iff.mp hlt
  refine .of_lt ?_ h₁
  rw [bot_lt_iff_ne_bot]
  rintro rfl
  simp at h₂

/-- When all of an array's magnitudes compare below infinity, its entries are real. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : IsReal (x i) :=
  have : Subsingleton S_.Idx := ⟨fun a b => funext fun k => k.elim0⟩
  real_of_below (Host.reduce_andi_all _ _ hr hu j h i)

variable [Cert.Pre_finite_experts.Facts] {m : (ℓ : Loc Cert.KernelIdeal.nD Cert.KernelIdeal.τ Cert.KernelIdeal.sig) → Buf (Elt Ideal) ℓ}

/-- What the precondition says of the arguments on one device. -/
theorem args_real (h : Pre_KernelIdeal_finite_experts m) (c : Dev Cert.KernelIdeal.nD) :
    (∀ i, IsReal (argX m c i)) ∧ (∀ i, IsReal (argG m c i)) ∧ (∀ i, IsReal (argK m c i)) ∧ (∀ i, IsReal (argB m c i))
    ∧ (∀ i, IsReal (argDn m c i)) ∧ (∀ i, IsReal (argUp m c i)) ∧ (∀ i, IsReal (argA m c i)) := by
  have h0 := congrFun (h c) ix0
  simp only [fn, fn_part1] at h0
  obtain ⟨h0, hA⟩ := IntOp.andi_eq_one.1 h0
  obtain ⟨h0, hU⟩ := IntOp.andi_eq_one.1 h0
  obtain ⟨h0, hD⟩ := IntOp.andi_eq_one.1 h0
  obtain ⟨h0, hB⟩ := IntOp.andi_eq_one.1 h0
  obtain ⟨h0, hK⟩ := IntOp.andi_eq_one.1 h0
  obtain ⟨hX, hG⟩ := IntOp.andi_eq_one.1 h0
  exact ⟨real_of_all _ _ _ _ _ hX, real_of_all _ _ _ _ _ hG, real_of_all _ _ _ _ _ hK, real_of_all _ _ _ _ _ hB,
    real_of_all _ _ _ _ _ hD, real_of_all _ _ _ _ _ hU, fun i => real_of_below (by
      obtain rfl : i = ix0 := funext fun k => k.elim0
      exact hA)⟩

end Cert.Hand
end
-- ==== Proof.Equal.lean ====
module

public import proofs.«01_k».proof.Proof.Results
public import proofs.«01_k».proof.Proof.Finite
public import proofs.«01_k».proof.Proof.Gen.Kernel
public import proofs.«01_k».proof.Proof.Gen.ReferenceIdeal.Run
public import Idealize.ShloMosaic.Lib.Claim

/-!
The kernel and the reference end with the same three results.
-/

@[expose] public section
set_option maxRecDepth 16384
noncomputable section
namespace Cert.Hand
open Idealize.ShloMosaic Idealize.ShloMosaic.TcCoe
open Cert.KernelIdeal Cert.KernelIdeal.Gen Cert.KernelIdeal.Hand
open Cert.ReferenceIdeal.Read

section
variable (m : (ℓ : Loc nD τ sig) → Buf (Elt Ideal) ℓ) (c : Dev nD)

/-- The first results agree when the arguments are real. -/
theorem out_agrees (hpre : Pre_KernelIdeal_finite_experts m) :
    (val_main_v56 (F := Ideal) (argX m c) (argQ m c) (argG m c) (argK m c) (argB m c) (argDn m c) (argUp m c) (argA m c) :
      S4x2048x768.Idx → EReal)
    = (Pipeline.afterTail₀ cfgs (dats m) 0 (V0 m) [hostOps1] c main_v28 : S4x2048x768.Idx → EReal) := by
  obtain ⟨hX, hG, hK, hB, hD, hU, hA⟩ := args_real hpre c
  funext j
  obtain ⟨b, s, d, rfl⟩ : ∃ b s d, j = ix3 b s d := ⟨j 0, j 1, j 2, eq_ix3 j⟩
  rw [ref_out]
  exact (final_out m c hX hG hK hB hD hU hA b s d).symm

/-- The second results agree. -/
theorem ortho_agrees : (val_main_v74 (F := Ideal) (argQ m c) (argP m c) : S_.Idx → EReal)
    = (Pipeline.afterTail₀ cfgs (dats m) 0 (V0 m) [hostOps1] c main_v29 : S_.Idx → EReal) :=
  funext fun j => (ref_ortho _ _ j).trans (final_ortho m c j).symm

/-- The third results agree. -/
theorem entropy_agrees : (val_main_v81 (F := Ideal) (argX m c) (argQ m c) (argG m c) (argK m c) (argB m c) : S_.Idx → EReal)
    = (Pipeline.afterTail₀ cfgs (dats m) 0 (V0 m) [hostOps1] c main_v30 : S_.Idx → EReal) :=
  funext fun j => (ref_entropy _ _ _ _ _ j).trans (final_entropy m c j).symm
end

/-- The value claim: from memories that agree on the arguments and hold real numbers where the precondition asks for them,
    both programs run and end with equal results and unchanged arguments. -/
theorem values_agree : Cert.algebraic_KernelIdeal_ReferenceIdeal_pre_finite_experts := by
  pair_intro
  · run_from Cert.KernelIdeal.Hand.run_main m g
    exacts [W_main_arg0 m (dats m) c, W_main_arg3 m (dats m) c, W_main_arg5 m (dats m) c, W_main_arg6 m (dats m) c,
      W_main_arg7 m (dats m) c, W_main_arg8 m (dats m) c]
  · run_from Cert.ReferenceIdeal.Value.run m' g'
    · refine (val_main_v56_eq m' c).trans ?_
      obtain ⟨h0, h1, -, h3, h4, h5, h6, h7, h8⟩ := hagree c
      exact (congr (congr (congr (congr (congr (congr (congr (congrArg (val_main_v56 (F := Ideal)) h0) h1) h3) h4) h5) h6) h7) h8).trans
        (out_agrees m c hpre)
    · exact (val_main_v74_eq _ _).trans (ortho_agrees m c)
    · refine (val_main_v81_eq m' c).trans ?_
      obtain ⟨h0, h1, -, h3, h4, h5, -, -, -⟩ := hagree c
      exact (congr (congr (congr (congr (congrArg (val_main_v81 (F := Ideal)) h0) h1) h3) h4) h5).trans (entropy_agrees m c)

end Cert.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_experts
public import proofs.«01_k».proof.Proof.Gen.ReferenceIdeal.Run
public import proofs.«01_k».proof.Proof.Gen.ReferenceIdeal.Read
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All the claims of the certificate. -/
theorem claim : Cert.Claim :=
  ⟨Cert.Kernel.Gen.facts, Cert.KernelIdeal.Gen.facts, Cert.ReferenceIdeal.Gen.facts, Cert.Pre_finite_experts.Gen.facts,
    Cert.Hand.frame_kernel, Cert.Hand.frame_kernelIdeal, Cert.Hand.frame_kernelIdeal_pre, Cert.Hand.frame_referenceIdeal,
    Cert.Hand.frame_referenceIdeal_pre, trivial, Cert.Hand.values_agree⟩

end Cert.Proof

end
